-- ==== Defs.lean ====
def Pre_Kernel [hPre_boxes_fill_rows : Cert.Pre_boxes_fill_rows.Facts] (m : (ℓ : Loc Cert.Kernel.nD Cert.Kernel.τ Cert.Kernel.sig) → Buf (Elt Bits) ℓ) : Prop :=
  ∀ c : Dev Cert.Kernel.nD,
    (Cert.Pre_boxes_fill_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_boxes_fill_rows : Cert.Pre_boxes_fill_rows.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_fill_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_fill_rows [hPre_boxes_fill_rows : Cert.Pre_boxes_fill_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_fill_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_boxes_fill_rows : Cert.Pre_boxes_fill_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_boxes_fill_rows : Cert.Pre_boxes_fill_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_boxes_fill_rows [hReferenceIdeal : Cert.ReferenceIdeal.Facts] [hPre_boxes_fill_rows : Cert.Pre_boxes_fill_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_fill_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_boxes_fill_rows : Cert.Pre_boxes_fill_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_boxes_fill_rows : Cert.Pre_boxes_fill_rows.Facts),
    quiescent_Kernel (hKernel := hKernel) (hPre_boxes_fill_rows := hPre_boxes_fill_rows)
    ∧ quiescent_KernelIdeal (hKernelIdeal := hKernelIdeal) (hPre_boxes_fill_rows := hPre_boxes_fill_rows)
    ∧ quiescent_ReferenceIdeal (hReferenceIdeal := hReferenceIdeal)
    ∧ quiescent_ReferenceIdeal_pre_boxes_fill_rows (hReferenceIdeal := hReferenceIdeal) (hPre_boxes_fill_rows := hPre_boxes_fill_rows)
    ∧ preserves_Kernel_KernelIdeal
    ∧ algebraic_KernelIdeal_ReferenceIdeal (hKernelIdeal := hKernelIdeal) (hReferenceIdeal := hReferenceIdeal) (hPre_boxes_fill_rows := hPre_boxes_fill_rows)
-- ==== Pre_boxes_fill_rows.lean ====
abbrev S89927x64 : Shape := ⟨2, ![89927, 64]⟩
abbrev S89927 : Shape := ⟨1, ![89927]⟩
abbrev S16384 : Shape := ⟨1, ![16384]⟩
abbrev S64x64 : Shape := ⟨2, ![64, 64]⟩
abbrev S64 : Shape := ⟨1, ![64]⟩
abbrev S9x64 : Shape := ⟨2, ![9, 64]⟩
abbrev S640x9 : Shape := ⟨2, ![640, 9]⟩
abbrev S9 : Shape := ⟨1, ![9]⟩
abbrev S9x9 : Shape := ⟨2, ![9, 9]⟩
abbrev S_ : Shape := ⟨0, ![]⟩

class Facts : Prop where
  bcast_S_S89927 : S_.BroadcastsInDim S89927 (![] : Fin 0 → Fin S89927.rank)
  reducesTo_S89927_S_d0 : S89927.ReducesTo [0] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S89927x64 .f32) (main_arg1 : IVec S89927 32) (main_arg2 : IVec S16384 32) (main_arg3 : FVec F S89927 .f32) (main_arg4 : FVec F S64x64 .f32) (main_arg5 : FVec F S64 .f32) (main_arg6 : FVec F S9x64 .f32) (main_arg7 : FVec F S640x9 .f32) (main_arg8 : FVec F S9 .f32) (main_arg9 : FVec F S9x9 .f32) (main_arg10 : FVec F S9 .f32) : IVec S_ 1 :=
  let main_c : IVec S_ 32 := constantI S_ 32 0#32
  let main_v0 : IVec S89927 32 := broadcastInDim S89927 ![] bcast_S_S89927 main_c
  let main_v1 : IVec S89927 1 := cmpi .sge main_arg1 main_v0
  let main_c_0 : IVec S_ 32 := constantI S_ 32 9#32
  let main_v2 : IVec S89927 32 := broadcastInDim S89927 ![] bcast_S_S89927 main_c_0
  let main_v3 : IVec S89927 1 := cmpi .slt main_arg1 main_v2
  let main_v4 : IVec S89927 1 := andi main_v1 main_v3
  let main_c_1 : IVec S_ 1 := constantI S_ 1 1#1
  let main_v5 : IVec S_ 1 := (fun x v => Host.reduce IntOp.andi x v reducesTo_S89927_S_d0 h_S_) main_v4 main_c_1
  let main_c_2 : IVec S_ 32 := constantI S_ 32 1#32
  let main_v6 : IVec S16384 32 := broadcastInDim S16384 ![] bcast_S_S16384 main_c_2
  let main_v7 : IVec S16384 1 := cmpi .sge main_arg2 main_v6
  let main_c_3 : IVec S_ 32 := constantI S_ 32 10#32
  let main_v8 : IVec S16384 32 := broadcastInDim S16384 ![] bcast_S_S16384 main_c_3
  let main_v9 : IVec S16384 1 := cmpi .sle main_arg2 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  let main_c_5 : IVec S_ 32 := constantI S_ 32 0#32
  let main_v13 : IVec S_ 32 := (fun x v => Host.reduce IntOp.addi x v reducesTo_S16384_S_d0 h_S_) main_arg2 main_c_5
  let main_c_6 : IVec S_ 32 := constantI S_ 32 89927#32
  let main_v14 : IVec S_ 1 := cmpi .eq main_v13 main_c_6
  let main_v15 : IVec S_ 1 := andi main_v12 main_v14
  main_v15
-- ==== Kernel.lean ====
abbrev S89927x64 : Shape := ⟨2, ![89927, 64]⟩
abbrev S89927 : Shape := ⟨1, ![89927]⟩
abbrev S16384 : Shape := ⟨1, ![16384]⟩
abbrev S64x64 : Shape := ⟨2, ![64, 64]⟩
abbrev S64 : Shape := ⟨1, ![64]⟩
abbrev S9x64 : Shape := ⟨2, ![9, 64]⟩
abbrev S640x9 : Shape := ⟨2, ![640, 9]⟩
abbrev S9 : Shape := ⟨1, ![9]⟩
abbrev S9x9 : Shape := ⟨2, ![9, 9]⟩
abbrev S_ : Shape := ⟨0, ![]⟩
abbrev S1 : Shape := ⟨1, ![1]⟩
abbrev S16385 : Shape := ⟨1, ![16385]⟩
abbrev S64x1x256 : Shape := ⟨3, ![64, 1, 256]⟩
abbrev S64x256x1 : Shape := ⟨3, ![64, 256, 1]⟩
abbrev S89927x1 : Shape := ⟨2, ![89927, 1]⟩
abbrev S89927x2 : Shape := ⟨2, ![89927, 2]⟩
abbrev S10x64x9 : Shape := ⟨3, ![10, 64, 9]⟩
abbrev S64x10x9 : Shape := ⟨3, ![64, 10, 9]⟩
abbrev S64x90 : Shape := ⟨2, ![64, 90]⟩
abbrev S90 : Shape := ⟨1, ![90]⟩
abbrev S90x1 : Shape := ⟨2, ![90, 1]⟩
abbrev S1x9 : Shape := ⟨2, ![1, 9]⟩
abbrev S90x9 : Shape := ⟨2, ![90, 9]⟩
abbrev S1x64 : Shape := ⟨2, ![1, 64]⟩
abbrev S16384x9 : Shape := ⟨2, ![16384, 9]⟩
abbrev S1x1x256 : Shape := ⟨3, ![1, 1, 256]⟩
abbrev S1x256x1 : Shape := ⟨3, ![1, 256, 1]⟩
abbrev S256x9 : Shape := ⟨2, ![256, 9]⟩
abbrev S2x2576x64 : Shape := ⟨3, ![2, 2576, 64]⟩
abbrev S2x2576x2 : Shape := ⟨3, ![2, 2576, 2]⟩
abbrev S2 : Shape := ⟨1, ![2]⟩
abbrev S2x1x64 : Shape := ⟨3, ![2, 1, 64]⟩
abbrev S2x1x2 : Shape := ⟨3, ![2, 1, 2]⟩
abbrev S1x2575x64 : Shape := ⟨3, ![1, 2575, 64]⟩
abbrev S2575x64 : Shape := ⟨2, ![2575, 64]⟩
abbrev S1x2575x2 : Shape := ⟨3, ![1, 2575, 2]⟩
abbrev S2575x2 : Shape := ⟨2, ![2575, 2]⟩
abbrev S1x2576x64 : Shape := ⟨3, ![1, 2576, 64]⟩
abbrev S2576x64 : Shape := ⟨2, ![2576, 64]⟩
abbrev S1x2576x2 : Shape := ⟨3, ![1, 2576, 2]⟩
abbrev S2576x2 : Shape := ⟨2, ![2576, 2]⟩
abbrev S2576x1 : Shape := ⟨2, ![2576, 1]⟩
abbrev S1x256 : Shape := ⟨2, ![1, 256]⟩
abbrev S256x1 : Shape := ⟨2, ![256, 1]⟩
abbrev S1x2576 : Shape := ⟨2, ![1, 2576]⟩
abbrev S2576x256 : Shape := ⟨2, ![2576, 256]⟩
abbrev S256x2576 : Shape := ⟨2, ![256, 2576]⟩
abbrev S2576x9 : Shape := ⟨2, ![2576, 9]⟩
abbrev S2576x90 : Shape := ⟨2, ![2576, 90]⟩
abbrev S2576 : Shape := ⟨1, ![2576]⟩
abbrev S1x90 : Shape := ⟨2, ![1, 90]⟩
abbrev S256 : Shape := ⟨1, ![256]⟩

abbrev nBuf : Space → Nat
  | .hbm => 65
  | .vmem => 20
  | .smem => 1
  | _ => 0

abbrev bufTy : (tb : Table) → Fin (tcTables nBuf tb) → BufTy
  | .hbm, ⟨0, _⟩ => ⟨S89927x64, .f32⟩
  | .hbm, ⟨1, _⟩ => ⟨S89927, .i32⟩
  | .hbm, ⟨2, _⟩ => ⟨S16384, .i32⟩
  | .hbm, ⟨3, _⟩ => ⟨S89927, .f32⟩
  | .hbm, ⟨4, _⟩ => ⟨S64x64, .f32⟩
  | .hbm, ⟨5, _⟩ => ⟨S64, .f32⟩
  | .hbm, ⟨6, _⟩ => ⟨S9x64, .f32⟩
  | .hbm, ⟨7, _⟩ => ⟨S640x9, .f32⟩
  | .hbm, ⟨8, _⟩ => ⟨S9, .f32⟩
  | .hbm, ⟨9, _⟩ => ⟨S9x9, .f32⟩
  | .hbm, ⟨10, _⟩ => ⟨S9, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .f32⟩
  | .hbm, ⟨18, _⟩ => ⟨S16384, .i32⟩
  | .hbm, ⟨19, _⟩ => ⟨S16384, .f32⟩
  | .hbm, ⟨20, _⟩ => ⟨S64x1x256, .f32⟩
  | .hbm, ⟨21, _⟩ => ⟨S64x1x256, .f32⟩
  | .hbm, ⟨22, _⟩ => ⟨S64x256x1, .f32⟩
  | .hbm, ⟨23, _⟩ => ⟨S64x256x1, .f32⟩
  | .hbm, ⟨24, _⟩ => ⟨S89927, .f32⟩
  | .hbm, ⟨25, _⟩ => ⟨S89927x1, .f32⟩
  | .hbm, ⟨26, _⟩ => ⟨S89927x1, .f32⟩
  | .hbm, ⟨27, _⟩ => ⟨S89927x2, .f32⟩
  | .hbm, ⟨28, _⟩ => ⟨S10x64x9, .f32⟩
  | .hbm, ⟨29, _⟩ => ⟨S64x10x9, .f32⟩
  | .hbm, ⟨30, _⟩ => ⟨S64x90, .f32⟩
  | .hbm, ⟨31, _⟩ => ⟨S90, .i32⟩
  | .hbm, ⟨32, _⟩ => ⟨S90x1, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S90x1, .i32⟩
  | .hbm, ⟨40, _⟩ => ⟨S90x1, .i32⟩
  | .hbm, ⟨41, _⟩ => ⟨S_, .i32⟩
  | .hbm, ⟨42, _⟩ => ⟨S90x1, .i32⟩
  | .hbm, ⟨43, _⟩ => ⟨S90x1, .i1⟩
  | .hbm, ⟨44, _⟩ => ⟨S_, .i32⟩
  | .hbm, ⟨45, _⟩ => ⟨S90x1, .i32⟩
  | .hbm, ⟨46, _⟩ => ⟨S90x1, .i1⟩
  | .hbm, ⟨47, _⟩ => ⟨S_, .i32⟩
  | .hbm, ⟨48, _⟩ => ⟨S_, .i1⟩
  | .hbm, ⟨49, _⟩ => ⟨S90x1, .i1⟩
  | .hbm, ⟨50, _⟩ => ⟨S90x1, .i1⟩
  | .hbm, ⟨51, _⟩ => ⟨S90x1, .i1⟩
  | .hbm, ⟨52, _⟩ => ⟨S90x1, .i32⟩
  | .hbm, ⟨53, _⟩ => ⟨S90x1, .i32⟩
  | .hbm, ⟨54, _⟩ => ⟨S90x1, .i32⟩
  | .hbm, ⟨55, _⟩ => ⟨S9, .i32⟩
  | .hbm, ⟨56, _⟩ => ⟨S1x9, .i32⟩
  | .hbm, ⟨57, _⟩ => ⟨S90x9, .i32⟩
  | .hbm, ⟨58, _⟩ => ⟨S90x9, .i32⟩
  | .hbm, ⟨59, _⟩ => ⟨S90x9, .i1⟩
  | .hbm, ⟨60, _⟩ => ⟨S90x9, .f32⟩
  | .hbm, ⟨61, _⟩ => ⟨S1x64, .f32⟩
  | .hbm, ⟨62, _⟩ => ⟨S1x9, .f32⟩
  | .hbm, ⟨63, _⟩ => ⟨S1x9, .f32⟩
  | .hbm, ⟨64, _⟩ => ⟨S16384x9, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S1x256x1, .f32⟩
  | .local _ .vmem, ⟨5, _⟩ => ⟨S1x256x1, .f32⟩
  | .local _ .vmem, ⟨6, _⟩ => ⟨S1x256x1, .f32⟩
  | .local _ .vmem, ⟨7, _⟩ => ⟨S1x256x1, .f32⟩
  | .local _ .vmem, ⟨8, _⟩ => ⟨S64x64, .f32⟩
  | .local _ .vmem, ⟨9, _⟩ => ⟨S1x64, .f32⟩
  | .local _ .vmem, ⟨10, _⟩ => ⟨S9x64, .f32⟩
  | .local _ .vmem, ⟨11, _⟩ => ⟨S64x90, .f32⟩
  | .local _ .vmem, ⟨12, _⟩ => ⟨S90x9, .f32⟩
  | .local _ .vmem, ⟨13, _⟩ => ⟨S1x9, .f32⟩
  | .local _ .vmem, ⟨14, _⟩ => ⟨S9x9, .f32⟩
  | .local _ .vmem, ⟨15, _⟩ => ⟨S1x9, .f32⟩
  | .local _ .vmem, ⟨16, _⟩ => ⟨S256x9, .f32⟩
  | .local _ .vmem, ⟨17, _⟩ => ⟨S256x9, .f32⟩
  | .local _ .vmem, ⟨18, _⟩ => ⟨S2x2576x64, .f32⟩
  | .local _ .vmem, ⟨19, _⟩ => ⟨S2x2576x2, .f32⟩
  | .local _ .smem, ⟨0, _⟩ => ⟨S16385, .i32⟩
  | _, _ => ⟨S89927x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_call0_call0_c : Ref sig .tc := ⟨.hbm, 13, rfl⟩
abbrev main_call0_call0_call0_v0 : Ref sig .tc := ⟨.hbm, 14, rfl⟩
abbrev main_call0_v1 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_c_0 : Ref sig .tc := ⟨.hbm, 33, rfl⟩
abbrev main_call0_call1_v0 : Ref sig .tc := ⟨.hbm, 34, rfl⟩
abbrev main_call0_call1_c : Ref sig .tc := ⟨.hbm, 35, rfl⟩
abbrev main_call0_call1_v1 : Ref sig .tc := ⟨.hbm, 36, rfl⟩
abbrev main_call0_call1_c_0 : Ref sig .tc := ⟨.hbm, 37, rfl⟩
abbrev main_call0_call1_v2 : Ref sig .tc := ⟨.hbm, 38, rfl⟩
abbrev main_call0_call1_v3 : Ref sig .tc := ⟨.hbm, 39, rfl⟩
abbrev main_call0_call1_v4 : Ref sig .tc := ⟨.hbm, 40, rfl⟩
abbrev main_call0_call1_c_1 : Ref sig .tc := ⟨.hbm, 41, rfl⟩
abbrev main_call0_call1_v5 : Ref sig .tc := ⟨.hbm, 42, rfl⟩
abbrev main_call0_call1_v6 : Ref sig .tc := ⟨.hbm, 43, rfl⟩
abbrev main_call0_call1_c_2 : Ref sig .tc := ⟨.hbm, 44, rfl⟩
abbrev main_call0_call1_v7 : Ref sig .tc := ⟨.hbm, 45, rfl⟩
abbrev main_call0_call1_v8 : Ref sig .tc := ⟨.hbm, 46, rfl⟩
abbrev main_call0_call1_c_3 : Ref sig .tc := ⟨.hbm, 47, rfl⟩
abbrev main_call0_call1_v9 : Ref sig .tc := ⟨.hbm, 48, rfl⟩
abbrev main_call0_call1_v10 : Ref sig .tc := ⟨.hbm, 49, rfl⟩
abbrev main_call0_call1_v11 : Ref sig .tc := ⟨.hbm, 50, rfl⟩
abbrev main_call0_call1_v12 : Ref sig .tc := ⟨.hbm, 51, rfl⟩
abbrev main_call0_call1_v13 : Ref sig .tc := ⟨.hbm, 52, rfl⟩
abbrev main_call0_call1_v14 : Ref sig .tc := ⟨.hbm, 53, rfl⟩
abbrev main_call0_v20 : Ref sig .tc := ⟨.hbm, 54, rfl⟩
abbrev main_call0_v21 : Ref sig .tc := ⟨.hbm, 55, rfl⟩
abbrev main_call0_v22 : Ref sig .tc := ⟨.hbm, 56, rfl⟩
abbrev main_call0_v23 : Ref sig .tc := ⟨.hbm, 57, rfl⟩
abbrev main_call0_v24 : Ref sig .tc := ⟨.hbm, 58, rfl⟩
abbrev main_call0_v25 : Ref sig .tc := ⟨.hbm, 59, rfl⟩
abbrev main_call0_v26 : Ref sig .tc := ⟨.hbm, 60, rfl⟩
abbrev main_call0_v27 : Ref sig .tc := ⟨.hbm, 61, rfl⟩
abbrev main_call0_v28 : Ref sig .tc := ⟨.hbm, 62, rfl⟩
abbrev main_call0_v29 : Ref sig .tc := ⟨.hbm, 63, rfl⟩
abbrev main_v0 : Ref sig .tc := ⟨.hbm, 64, rfl⟩
abbrev main_call0_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_call0_v2.idx], fun | 0 => main_call0_v2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v240 : BitVec 32) : Fin 2 → Nat :=
  let c0_i32_101 : BitVec 32 := 0#32
  let v242 : BitVec 1 := Scalar.cmpi .sgt v240 c0_i32_101
  let v243 : BitVec 32 := Scalar.extui v242
  let c0_i32_102 : BitVec 32 := 0#32
  let v244 : BitVec 1 := Scalar.cmpi .slt v240 c0_i32_102
  let v245 : BitVec 32 := Scalar.extui v244
  let v246 : BitVec 32 := Scalar.subi v243 v245
  let c8_i32_100 : BitVec 32 := 8#32
  let c0_i32_103 : BitVec 32 := 0#32
  let v247 : BitVec 1 := Scalar.cmpi .sgt c8_i32_100 c0_i32_103
  let v248 : BitVec 32 := Scalar.extui v247
  let c0_i32_104 : BitVec 32 := 0#32
  let v249 : BitVec 1 := Scalar.cmpi .slt c8_i32_100 c0_i32_104
  let v250 : BitVec 32 := Scalar.extui v249
  let v251 : BitVec 32 := Scalar.subi v248 v250
  let v252 : BitVec 1 := Scalar.cmpi .ne v246 v251
  let v253 : BitVec 32 := Scalar.remsi v240 c8_i32_100
  let c0_i32_105 : BitVec 32 := 0#32
  let v254 : BitVec 1 := Scalar.cmpi .ne v253 c0_i32_105
  let v255 : BitVec 1 := Scalar.andi v252 v254
  let v241 : BitVec 32 := Scalar.divsi v240 c8_i32_100
  let c1_i32_106 : BitVec 32 := 1#32
  let v256 : BitVec 32 := Scalar.subi v241 c1_i32_106
  let v257 : BitVec 32 := Scalar.select v255 v256 v241
  let c8_i32_107 : BitVec 32 := 8#32
  let v258 : BitVec 32 := Scalar.muli v257 c8_i32_107
  let c87352_i32_108 : BitVec 32 := 87352#32
  let v259 : BitVec 32 := Scalar.minsi v258 c87352_i32_108
  let c0_i32_113 : BitVec 32 := 0#32
  ![v259.toNat, 0]

def k0_off2 (v240 : BitVec 32) : Fin 2 → Nat :=
  let c0_i32_101 : BitVec 32 := 0#32
  let v242 : BitVec 1 := Scalar.cmpi .sgt v240 c0_i32_101
  let v243 : BitVec 32 := Scalar.extui v242
  let c0_i32_102 : BitVec 32 := 0#32
  let v244 : BitVec 1 := Scalar.cmpi .slt v240 c0_i32_102
  let v245 : BitVec 32 := Scalar.extui v244
  let v246 : BitVec 32 := Scalar.subi v243 v245
  let c8_i32_100 : BitVec 32 := 8#32
  let c0_i32_103 : BitVec 32 := 0#32
  let v247 : BitVec 1 := Scalar.cmpi .sgt c8_i32_100 c0_i32_103
  let v248 : BitVec 32 := Scalar.extui v247
  let c0_i32_104 : BitVec 32 := 0#32
  let v249 : BitVec 1 := Scalar.cmpi .slt c8_i32_100 c0_i32_104
  let v250 : BitVec 32 := Scalar.extui v249
  let v251 : BitVec 32 := Scalar.subi v248 v250
  let v252 : BitVec 1 := Scalar.cmpi .ne v246 v251
  let v253 : BitVec 32 := Scalar.remsi v240 c8_i32_100
  let c0_i32_105 : BitVec 32 := 0#32
  let v254 : BitVec 1 := Scalar.cmpi .ne v253 c0_i32_105
  let v255 : BitVec 1 := Scalar.andi v252 v254
  let v241 : BitVec 32 := Scalar.divsi v240 c8_i32_100
  let c1_i32_106 : BitVec 32 := 1#32
  let v256 : BitVec 32 := Scalar.subi v241 c1_i32_106
  let v257 : BitVec 32 := Scalar.select v255 v256 v241
  let c8_i32_107 : BitVec 32 := 8#32
  let v258 : BitVec 32 := Scalar.muli v257 c8_i32_107
  let c87352_i32_108 : BitVec 32 := 87352#32
  let v259 : BitVec 32 := Scalar.minsi v258 c87352_i32_108
  let c0_i32_118 : BitVec 32 := 0#32
  ![v259.toNat, 0]

def k0_chk1 (i : grid0.Coords) (v240 : BitVec 32) : Prop :=
  (∀ (k0_h1 : k0_cond1 i = 1#1), ∀ a, (k0_off1 v240) a + S2575x64.size a ≤ S89927x64.size a) ∧
  (∀ (k0_h1 : k0_cond1 i = 1#1), ∀ a, (k0_off2 v240) a + S2575x2.size a ≤ S89927x2.size a)
theorem k0_off1_inb : ∀ (i : grid0.Coords) (v240 : BitVec 32) (k0_hw1 : k0_chk1 i v240), ∀ (k0_h1 : k0_cond1 i = 1#1), ∀ a, (k0_off1 v240) a + S2575x64.size a ≤ S89927x64.size a := fun i v240 k0_hw1 k0_h1 => k0_hw1.1 k0_h1
theorem k0_off2_inb : ∀ (i : grid0.Coords) (v240 : BitVec 32) (k0_hw1 : k0_chk1 i v240), ∀ (k0_h1 : k0_cond1 i = 1#1), ∀ a, (k0_off2 v240) a + S2575x2.size a ≤ S89927x2.size a := fun i v240 k0_hw1 k0_h1 => k0_hw1.2 k0_h1

def k0_cond2 (i : grid0.Coords) : BitVec 1 :=
  let arg0 : BitVec 32 := BitVec.ofNat 32 (i 0).val
  let c1_i32 : BitVec 32 := 1#32
  let v3 : BitVec 32 := Scalar.addi arg0 c1_i32
  let c64_i32 : BitVec 32 := 64#32
  let v4 : BitVec 1 := Scalar.cmpi .slt v3 c64_i32
  let v5 : BitVec 32 := Scalar.extui v4
  let c0_i32_1 : BitVec 32 := 0#32
  let v6 : BitVec 1 := Scalar.cmpi .ne v5 c0_i32_1
  v6

def k0_off3 (i : grid0.Coords) : Fin 1 → Nat :=
  let arg0 : BitVec 32 := BitVec.ofNat 32 (i 0).val
  let c1_i32_92 : BitVec 32 := 1#32
  let v232 : BitVec 32 := Scalar.addi arg0 c1_i32_92
  let c256_i32_100 : BitVec 32 := 256#32
  let v244 : BitVec 32 := Scalar.muli v232 c256_i32_100
  let v245 : Index := Scalar.indexCast v244
  ![v245.toNat]
def k0_off4 (i : grid0.Coords) : Fin 1 → Nat :=
  let arg0 : BitVec 32 := BitVec.ofNat 32 (i 0).val
  let c1_i32_93 : BitVec 32 := 1#32
  let v233 : BitVec 32 := Scalar.addi arg0 c1_i32_93
  let c2_i32_94 : BitVec 32 := 2#32
  let c0_i32_95 : BitVec 32 := 0#32
  let v234 : BitVec 1 := Scalar.cmpi .eq c2_i32_94 c0_i32_95
  let c1_i32_96 : BitVec 32 := 1#32
  let v235 : BitVec 32 := Scalar.select v234 c1_i32_96 c2_i32_94
  let v236 : BitVec 32 := Scalar.remsi v233 v235
  let c0_i32_98 : BitVec 32 := 0#32
  let v238 : BitVec 1 := Scalar.cmpi .slt v236 c0_i32_98
  let c0_i32_99 : BitVec 32 := 0#32
  let v239 : BitVec 1 := Scalar.cmpi .slt v235 c0_i32_99
  let v240 : BitVec 1 := Scalar.xori v238 v239
  let c0_i32_97 : BitVec 32 := 0#32
  let v237 : BitVec 1 := Scalar.cmpi .ne v236 c0_i32_97
  let v241 : BitVec 1 := Scalar.andi v240 v237
  let v242 : BitVec 32 := Scalar.addi v236 v235
  let v243 : BitVec 32 := Scalar.select v241 v242 v236
  ![v243.toNat]
def k0_off5 (i : grid0.Coords) : Fin 3 → Nat :=
  let arg0 : BitVec 32 := BitVec.ofNat 32 (i 0).val
  let c1_i32_93 : BitVec 32 := 1#32
  let v233 : BitVec 32 := Scalar.addi arg0 c1_i32_93
  let c2_i32_94 : BitVec 32 := 2#32
  let c0_i32_95 : BitVec 32 := 0#32
  let v234 : BitVec 1 := Scalar.cmpi .eq c2_i32_94 c0_i32_95
  let c1_i32_96 : BitVec 32 := 1#32
  let v235 : BitVec 32 := Scalar.select v234 c1_i32_96 c2_i32_94
  let v236 : BitVec 32 := Scalar.remsi v233 v235
  let c0_i32_98 : BitVec 32 := 0#32
  let v238 : BitVec 1 := Scalar.cmpi .slt v236 c0_i32_98
  let c0_i32_99 : BitVec 32 := 0#32
  let v239 : BitVec 1 := Scalar.cmpi .slt v235 c0_i32_99
  let v240 : BitVec 1 := Scalar.xori v238 v239
  let c0_i32_97 : BitVec 32 := 0#32
  let v237 : BitVec 1 := Scalar.cmpi .ne v236 c0_i32_97
  let v241 : BitVec 1 := Scalar.andi v240 v237
  let v242 : BitVec 32 := Scalar.addi v236 v235
  let v243 : BitVec 32 := Scalar.select v241 v242 v236
  let c0_i32_110 : BitVec 32 := 0#32
  let c0_i32_111 : BitVec 32 := 0#32
  ![v243.toNat, 0, 0]
def k0_off6 (v246 : BitVec 32) : Fin 2 → Nat :=
  let c0_i32_102 : BitVec 32 := 0#32
  let v248 : BitVec 1 := Scalar.cmpi .sgt v246 c0_i32_102
  let v249 : BitVec 32 := Scalar.extui v248
  let c0_i32_103 : BitVec 32 := 0#32
  let v250 : BitVec 1 := Scalar.cmpi .slt v246 c0_i32_103
  let v251 : BitVec 32 := Scalar.extui v250
  let v252 : BitVec 32 := Scalar.subi v249 v251
  let c8_i32_101 : BitVec 32 := 8#32
  let c0_i32_104 : BitVec 32 := 0#32
  let v253 : BitVec 1 := Scalar.cmpi .sgt c8_i32_101 c0_i32_104
  let v254 : BitVec 32 := Scalar.extui v253
  let c0_i32_105 : BitVec 32 := 0#32
  let v255 : BitVec 1 := Scalar.cmpi .slt c8_i32_101 c0_i32_105
  let v256 : BitVec 32 := Scalar.extui v255
  let v257 : BitVec 32 := Scalar.subi v254 v256
  let v258 : BitVec 1 := Scalar.cmpi .ne v252 v257
  let v259 : BitVec 32 := Scalar.remsi v246 c8_i32_101
  let c0_i32_106 : BitVec 32 := 0#32
  let v260 : BitVec 1 := Scalar.cmpi .ne v259 c0_i32_106
  let v261 : BitVec 1 := Scalar.andi v258 v260
  let v247 : BitVec 32 := Scalar.divsi v246 c8_i32_101
  let c1_i32_107 : BitVec 32 := 1#32
  let v262 : BitVec 32 := Scalar.subi v247 c1_i32_107
  let v263 : BitVec 32 := Scalar.select v261 v262 v247
  let c8_i32_108 : BitVec 32 := 8#32
  let v264 : BitVec 32 := Scalar.muli v263 c8_i32_108
  let c87352_i32_109 : BitVec 32 := 87352#32
  let v265 : BitVec 32 := Scalar.minsi v264 c87352_i32_109
  let c0_i32_112 : BitVec 32 := 0#32
  ![v265.toNat, 0]

def k0_off7 (i : grid0.Coords) : Fin 1 → Nat :=
  let arg0 : BitVec 32 := BitVec.ofNat 32 (i 0).val
  let c1_i32_93 : BitVec 32 := 1#32
  let v233 : BitVec 32 := Scalar.addi arg0 c1_i32_93
  let c2_i32_94 : BitVec 32 := 2#32
  let c0_i32_95 : BitVec 32 := 0#32
  let v234 : BitVec 1 := Scalar.cmpi .eq c2_i32_94 c0_i32_95
  let c1_i32_96 : BitVec 32 := 1#32
  let v235 : BitVec 32 := Scalar.select v234 c1_i32_96 c2_i32_94
  let v236 : BitVec 32 := Scalar.remsi v233 v235
  let c0_i32_98 : BitVec 32 := 0#32
  let v238 : BitVec 1 := Scalar.cmpi .slt v236 c0_i32_98
  let c0_i32_99 : BitVec 32 := 0#32
  let v239 : BitVec 1 := Scalar.cmpi .slt v235 c0_i32_99
  let v240 : BitVec 1 := Scalar.xori v238 v239
  let c0_i32_97 : BitVec 32 := 0#32
  let v237 : BitVec 1 := Scalar.cmpi .ne v236 c0_i32_97
  let v241 : BitVec 1 := Scalar.andi v240 v237
  let v242 : BitVec 32 := Scalar.addi v236 v235
  let v243 : BitVec 32 := Scalar.select v241 v242 v236
  ![v243.toNat]
def k0_off8 (i : grid0.Coords) : Fin 3 → Nat :=
  let arg0 : BitVec 32 := BitVec.ofNat 32 (i 0).val
  let c1_i32_93 : BitVec 32 := 1#32
  let v233 : BitVec 32 := Scalar.addi arg0 c1_i32_93
  let c2_i32_94 : BitVec 32 := 2#32
  let c0_i32_95 : BitVec 32 := 0#32
  let v234 : BitVec 1 := Scalar.cmpi .eq c2_i32_94 c0_i32_95
  let c1_i32_96 : BitVec 32 := 1#32
  let v235 : BitVec 32 := Scalar.select v234 c1_i32_96 c2_i32_94
  let v236 : BitVec 32 := Scalar.remsi v233 v235
  let c0_i32_98 : BitVec 32 := 0#32
  let v238 : BitVec 1 := Scalar.cmpi .slt v236 c0_i32_98
  let c0_i32_99 : BitVec 32 := 0#32
  let v239 : BitVec 1 := Scalar.cmpi .slt v235 c0_i32_99
  let v240 : BitVec 1 := Scalar.xori v238 v239
  let c0_i32_97 : BitVec 32 := 0#32
  let v237 : BitVec 1 := Scalar.cmpi .ne v236 c0_i32_97
  let v241 : BitVec 1 := Scalar.andi v240 v237
  let v242 : BitVec 32 := Scalar.addi v236 v235
  let v243 : BitVec 32 := Scalar.select v241 v242 v236
  let c0_i32_113 : BitVec 32 := 0#32
  let c0_i32_114 : BitVec 32 := 0#32
  ![v243.toNat, 0, 0]
def k0_off9 (v246 : BitVec 32) : Fin 2 → Nat :=
  let c0_i32_102 : BitVec 32 := 0#32
  let v248 : BitVec 1 := Scalar.cmpi .sgt v246 c0_i32_102
  let v249 : BitVec 32 := Scalar.extui v248
  let c0_i32_103 : BitVec 32 := 0#32
  let v250 : BitVec 1 := Scalar.cmpi .slt v246 c0_i32_103
  let v251 : BitVec 32 := Scalar.extui v250
  let v252 : BitVec 32 := Scalar.subi v249 v251
  let c8_i32_101 : BitVec 32 := 8#32
  let c0_i32_104 : BitVec 32 := 0#32
  let v253 : BitVec 1 := Scalar.cmpi .sgt c8_i32_101 c0_i32_104
  let v254 : BitVec 32 := Scalar.extui v253
  let c0_i32_105 : BitVec 32 := 0#32
  let v255 : BitVec 1 := Scalar.cmpi .slt c8_i32_101 c0_i32_105
  let v256 : BitVec 32 := Scalar.extui v255
  let v257 : BitVec 32 := Scalar.subi v254 v256
  let v258 : BitVec 1 := Scalar.cmpi .ne v252 v257
  let v259 : BitVec 32 := Scalar.remsi v246 c8_i32_101
  let c0_i32_106 : BitVec 32 := 0#32
  let v260 : BitVec 1 := Scalar.cmpi .ne v259 c0_i32_106
  let v261 : BitVec 1 := Scalar.andi v258 v260
  let v247 : BitVec 32 := Scalar.divsi v246 c8_i32_101
  let c1_i32_107 : BitVec 32 := 1#32
  let v262 : BitVec 32 := Scalar.subi v247 c1_i32_107
  let v263 : BitVec 32 := Scalar.select v261 v262 v247
  let c8_i32_108 : BitVec 32 := 8#32
  let v264 : BitVec 32 := Scalar.muli v263 c8_i32_108
  let c87352_i32_109 : BitVec 32 := 87352#32
  let v265 : BitVec 32 := Scalar.minsi v264 c87352_i32_109
  let c0_i32_115 : BitVec 32 := 0#32
  ![v265.toNat, 0]

def k0_chk2 (i : grid0.Coords) (v246 : BitVec 32) : Prop :=
  (∀ (k0_h2 : k0_cond2 i = 1#1), ∀ a, (k0_off6 v246) a + S2575x64.size a ≤ S89927x64.size a) ∧
  (∀ (k0_h2 : k0_cond2 i = 1#1), ∀ a, (k0_off9 v246) a + S2575x2.size a ≤ S89927x2.size a)
theorem k0_off6_inb : ∀ (i : grid0.Coords) (v246 : BitVec 32) (k0_hw2 : k0_chk2 i v246), ∀ (k0_h2 : k0_cond2 i = 1#1), ∀ a, (k0_off6 v246) a + S2575x64.size a ≤ S89927x64.size a := fun i v246 k0_hw2 k0_h2 => k0_hw2.1 k0_h2
theorem k0_off9_inb : ∀ (i : grid0.Coords) (v246 : BitVec 32) (k0_hw2 : k0_chk2 i v246), ∀ (k0_h2 : k0_cond2 i = 1#1), ∀ a, (k0_off9 v246) a + S2575x2.size a ≤ S89927x2.size a := fun i v246 k0_hw2 k0_h2 => k0_hw2.2 k0_h2

def k0_off10 (i : grid0.Coords) : Fin 1 → Nat :=
  let arg0 : BitVec 32 := BitVec.ofNat 32 (i 0).val
  let c256_i32 : BitVec 32 := 256#32
  let v17 : BitVec 32 := Scalar.muli arg0 c256_i32
  let v18 : Index := Scalar.indexCast v17
  ![v18.toNat]
def k0_off11 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off12 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_14 : BitVec 32 := 0#32
  let c0_i32_15 : BitVec 32 := 0#32
  ![v16.toNat, 0, 0]
def k0_off13 (v19 : BitVec 32) : Fin 2 → Nat :=
  let c0_i32_7 : BitVec 32 := 0#32
  let v21 : BitVec 1 := Scalar.cmpi .sgt v19 c0_i32_7
  let v22 : BitVec 32 := Scalar.extui v21
  let c0_i32_8 : BitVec 32 := 0#32
  let v23 : BitVec 1 := Scalar.cmpi .slt v19 c0_i32_8
  let v24 : BitVec 32 := Scalar.extui v23
  let v25 : BitVec 32 := Scalar.subi v22 v24
  let c8_i32 : BitVec 32 := 8#32
  let c0_i32_9 : BitVec 32 := 0#32
  let v26 : BitVec 1 := Scalar.cmpi .sgt c8_i32 c0_i32_9
  let v27 : BitVec 32 := Scalar.extui v26
  let c0_i32_10 : BitVec 32 := 0#32
  let v28 : BitVec 1 := Scalar.cmpi .slt c8_i32 c0_i32_10
  let v29 : BitVec 32 := Scalar.extui v28
  let v30 : BitVec 32 := Scalar.subi v27 v29
  let v31 : BitVec 1 := Scalar.cmpi .ne v25 v30
  let v32 : BitVec 32 := Scalar.remsi v19 c8_i32
  let c0_i32_11 : BitVec 32 := 0#32
  let v33 : BitVec 1 := Scalar.cmpi .ne v32 c0_i32_11
  let v34 : BitVec 1 := Scalar.andi v31 v33
  let v20 : BitVec 32 := Scalar.divsi v19 c8_i32
  let c1_i32_12 : BitVec 32 := 1#32
  let v35 : BitVec 32 := Scalar.subi v20 c1_i32_12
  let v36 : BitVec 32 := Scalar.select v34 v35 v20
  let c8_i32_13 : BitVec 32 := 8#32
  let v37 : BitVec 32 := Scalar.muli v36 c8_i32_13
  let c87352_i32 : BitVec 32 := 87352#32
  let v38 : BitVec 32 := Scalar.minsi v37 c87352_i32
  let c0_i32_16 : BitVec 32 := 0#32
  ![v38.toNat, 0]

def k0_off14 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off15 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_17 : BitVec 32 := 0#32
  let c0_i32_18 : BitVec 32 := 0#32
  ![v16.toNat, 0, 0]
def k0_off16 (v19 : BitVec 32) : Fin 2 → Nat :=
  let c0_i32_7 : BitVec 32 := 0#32
  let v21 : BitVec 1 := Scalar.cmpi .sgt v19 c0_i32_7
  let v22 : BitVec 32 := Scalar.extui v21
  let c0_i32_8 : BitVec 32 := 0#32
  let v23 : BitVec 1 := Scalar.cmpi .slt v19 c0_i32_8
  let v24 : BitVec 32 := Scalar.extui v23
  let v25 : BitVec 32 := Scalar.subi v22 v24
  let c8_i32 : BitVec 32 := 8#32
  let c0_i32_9 : BitVec 32 := 0#32
  let v26 : BitVec 1 := Scalar.cmpi .sgt c8_i32 c0_i32_9
  let v27 : BitVec 32 := Scalar.extui v26
  let c0_i32_10 : BitVec 32 := 0#32
  let v28 : BitVec 1 := Scalar.cmpi .slt c8_i32 c0_i32_10
  let v29 : BitVec 32 := Scalar.extui v28
  let v30 : BitVec 32 := Scalar.subi v27 v29
  let v31 : BitVec 1 := Scalar.cmpi .ne v25 v30
  let v32 : BitVec 32 := Scalar.remsi v19 c8_i32
  let c0_i32_11 : BitVec 32 := 0#32
  let v33 : BitVec 1 := Scalar.cmpi .ne v32 c0_i32_11
  let v34 : BitVec 1 := Scalar.andi v31 v33
  let v20 : BitVec 32 := Scalar.divsi v19 c8_i32
  let c1_i32_12 : BitVec 32 := 1#32
  let v35 : BitVec 32 := Scalar.subi v20 c1_i32_12
  let v36 : BitVec 32 := Scalar.select v34 v35 v20
  let c8_i32_13 : BitVec 32 := 8#32
  let v37 : BitVec 32 := Scalar.muli v36 c8_i32_13
  let c87352_i32 : BitVec 32 := 87352#32
  let v38 : BitVec 32 := Scalar.minsi v37 c87352_i32
  let c0_i32_19 : BitVec 32 := 0#32
  ![v38.toNat, 0]

def k0_chk3 (v19 : BitVec 32) : Prop :=
  (∀ a, (k0_off13 v19) a + S2575x64.size a ≤ S89927x64.size a) ∧
  (∀ a, (k0_off16 v19) a + S2575x2.size a ≤ S89927x2.size a)
theorem k0_off13_inb : ∀ (v19 : BitVec 32) (k0_hw3 : k0_chk3 v19), ∀ a, (k0_off13 v19) a + S2575x64.size a ≤ S89927x64.size a := fun v19 k0_hw3 => k0_hw3.1
theorem k0_off16_inb : ∀ (v19 : BitVec 32) (k0_hw3 : k0_chk3 v19), ∀ a, (k0_off16 v19) a + S2575x2.size a ≤ S89927x2.size a := fun v19 k0_hw3 => k0_hw3.2

def k0_off17 (i : grid0.Coords) : Fin 1 → Nat :=
  let arg0 : BitVec 32 := BitVec.ofNat 32 (i 0).val
  let c256_i32_20 : BitVec 32 := 256#32
  let v49 : BitVec 32 := Scalar.muli arg0 c256_i32_20
  let v50 : Index := Scalar.indexCast v49
  ![v50.toNat]
def k0_off18 (i : grid0.Coords) : Fin 3 → Nat :=
  let arg0 : BitVec 32 := BitVec.ofNat 32 (i 0).val
  let c2_i32_30 : BitVec 32 := 2#32
  let c0_i32_31 : BitVec 32 := 0#32
  let v71 : BitVec 1 := Scalar.cmpi .eq c2_i32_30 c0_i32_31
  let c1_i32_32 : BitVec 32 := 1#32
  let v72 : BitVec 32 := Scalar.select v71 c1_i32_32 c2_i32_30
  let v73 : BitVec 32 := Scalar.remsi arg0 v72
  let c0_i32_34 : BitVec 32 := 0#32
  let v75 : BitVec 1 := Scalar.cmpi .slt v73 c0_i32_34
  let c0_i32_35 : BitVec 32 := 0#32
  let v76 : BitVec 1 := Scalar.cmpi .slt v72 c0_i32_35
  let v77 : BitVec 1 := Scalar.xori v75 v76
  let c0_i32_33 : BitVec 32 := 0#32
  let v74 : BitVec 1 := Scalar.cmpi .ne v73 c0_i32_33
  let v78 : BitVec 1 := Scalar.andi v77 v74
  let v79 : BitVec 32 := Scalar.addi v73 v72
  let v80 : BitVec 32 := Scalar.select v78 v79 v73
  let v81 : Index := Scalar.indexCast v80
  let c0 : Index := 0#32
  let c0_36 : Index := 0#32
  ![v81.toNat, 0, 0]
def k0_off19 (i : grid0.Coords) : Fin 3 → Nat :=
  let arg0 : BitVec 32 := BitVec.ofNat 32 (i 0).val
  let c2_i32_37 : BitVec 32 := 2#32
  let c0_i32_38 : BitVec 32 := 0#32
  let v84 : BitVec 1 := Scalar.cmpi .eq c2_i32_37 c0_i32_38
  let c1_i32_39 : BitVec 32 := 1#32
  let v85 : BitVec 32 := Scalar.select v84 c1_i32_39 c2_i32_37
  let v86 : BitVec 32 := Scalar.remsi arg0 v85
  let c0_i32_41 : BitVec 32 := 0#32
  let v88 : BitVec 1 := Scalar.cmpi .slt v86 c0_i32_41
  let c0_i32_42 : BitVec 32 := 0#32
  let v89 : BitVec 1 := Scalar.cmpi .slt v85 c0_i32_42
  let v90 : BitVec 1 := Scalar.xori v88 v89
  let c0_i32_40 : BitVec 32 := 0#32
  let v87 : BitVec 1 := Scalar.cmpi .ne v86 c0_i32_40
  let v91 : BitVec 1 := Scalar.andi v90 v87
  let v92 : BitVec 32 := Scalar.addi v86 v85
  let v93 : BitVec 32 := Scalar.select v91 v92 v86
  let v94 : Index := Scalar.indexCast v93
  let c0_43 : Index := 0#32
  let c0_44 : Index := 0#32
  ![v94.toNat, 0, 0]
def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S9x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x90 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S90x9 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x9 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S9x9 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x9 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x9 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S89927x64 : Shape := ⟨2, ![89927, 64]⟩
abbrev S89927 : Shape := ⟨1, ![89927]⟩
abbrev S16384 : Shape := ⟨1, ![16384]⟩
abbrev S64x64 : Shape := ⟨2, ![64, 64]⟩
abbrev S64 : Shape := ⟨1, ![64]⟩
abbrev S9x64 : Shape := ⟨2, ![9, 64]⟩
abbrev S640x9 : Shape := ⟨2, ![640, 9]⟩
abbrev S9 : Shape := ⟨1, ![9]⟩
abbrev S9x9 : Shape := ⟨2, ![9, 9]⟩
abbrev S_ : Shape := ⟨0, ![]⟩
abbrev S89927x1 : Shape := ⟨2, ![89927, 1]⟩
abbrev S1 : Shape := ⟨1, ![1]⟩
abbrev S1x1 : Shape := ⟨2, ![1, 1]⟩
abbrev S1x64 : Shape := ⟨2, ![1, 64]⟩
abbrev S16383 : Shape := ⟨1, ![16383]⟩
abbrev S16384x1 : Shape := ⟨2, ![16384, 1]⟩
abbrev S16384x10x64 : Shape := ⟨3, ![16384, 10, 64]⟩
abbrev S89927x2 : Shape := ⟨2, ![89927, 2]⟩
abbrev S16384x640 : Shape := ⟨2, ![16384, 640]⟩
abbrev S16384x9 : Shape := ⟨2, ![16384, 9]⟩
abbrev S1x9 : Shape := ⟨2, ![1, 9]⟩

abbrev nBuf : Space → Nat
  | .hbm => 185
  | .vmem => 0
  | .smem => 0
  | _ => 0

abbrev hbmTy0_0 (i : Nat) : BufTy := match i % 128 with
  | 0 => ⟨S89927x64, .f32⟩
  | 1 => ⟨S89927, .i32⟩
  | 2 => ⟨S16384, .i32⟩
  | 3 => ⟨S89927, .f32⟩
  | 4 => ⟨S64x64, .f32⟩
  | 5 => ⟨S64, .f32⟩
  | 6 => ⟨S9x64, .f32⟩
  | 7 => ⟨S640x9, .f32⟩
  | 8 => ⟨S9, .f32⟩
  | 9 => ⟨S9x9, .f32⟩
  | 10 => ⟨S9, .f32⟩
  | 11 => ⟨S_, .i32⟩
  | 12 => ⟨S89927, .i32⟩
  | 13 => ⟨S89927, .i1⟩
  | 14 => ⟨S_, .i32⟩
  | 15 => ⟨S89927, .i32⟩
  | 16 => ⟨S89927, .i32⟩
  | 17 => ⟨S89927, .i32⟩
  | 18 => ⟨S89927x1, .i32⟩
  | 19 => ⟨S1, .i32⟩
  | 20 => ⟨S_, .i32⟩
  | 21 => ⟨S89927x1, .i32⟩
  | 22 => ⟨S89927x1, .i1⟩
  | 23 => ⟨S1x1, .i32⟩
  | 24 => ⟨S89927x1, .i32⟩
  | 25 => ⟨S89927x1, .i1⟩
  | 26 => ⟨S89927x1, .i1⟩
  | 27 => ⟨S_, .i1⟩
  | 28 => ⟨S89927, .i1⟩
  | 29 => ⟨S89927x64, .f32⟩
  | 30 => ⟨S89927x64, .i1⟩
  | 31 => ⟨S_, .f32⟩
  | 32 => ⟨S89927x64, .f32⟩
  | 33 => ⟨S89927x64, .f32⟩
  | 34 => ⟨S89927x64, .f32⟩
  | 35 => ⟨S89927x64, .f32⟩
  | 36 => ⟨S1x64, .f32⟩
  | 37 => ⟨S89927x64, .f32⟩
  | 38 => ⟨S89927x64, .f32⟩
  | 39 => ⟨S_, .f32⟩
  | 40 => ⟨S89927x64, .f32⟩
  | 41 => ⟨S89927x64, .f32⟩
  | 42 => ⟨S89927x1, .f32⟩
  | 43 => ⟨S89927x64, .f32⟩
  | 44 => ⟨S89927x64, .f32⟩
  | 45 => ⟨S_, .i32⟩
  | 46 => ⟨S1, .i32⟩
  | 47 => ⟨S_, .i32⟩
  | 48 => ⟨S_, .i32⟩
  | 49 => ⟨S16384, .i32⟩
  | 50 => ⟨S16383, .i32⟩
  | 51 => ⟨S16384, .i32⟩
  | 52 => ⟨S16384, .i32⟩
  | 53 => ⟨S1, .i32⟩
  | 54 => ⟨S16383, .i32⟩
  | 55 => ⟨S16384, .i32⟩
  | 56 => ⟨S_, .i32⟩
  | 57 => ⟨S1, .i32⟩
  | 58 => ⟨S_, .i32⟩
  | 59 => ⟨S16384, .i32⟩
  | 60 => ⟨S_, .i32⟩
  | 61 => ⟨S_, .i32⟩
  | 62 => ⟨S16384, .i32⟩
  | 63 => ⟨S_, .i32⟩
  | 64 => ⟨S89927, .i32⟩
  | 65 => ⟨S_, .i32⟩
  | 66 => ⟨S16384, .i32⟩
  | 67 => ⟨S16384, .i1⟩
  | 68 => ⟨S_, .i32⟩
  | 69 => ⟨S16384, .i32⟩
  | 70 => ⟨S16384, .i32⟩
  | 71 => ⟨S16384, .i32⟩
  | 72 => ⟨S16384x1, .i32⟩
  | 73 => ⟨S_, .i32⟩
  | 74 => ⟨S16384, .i32⟩
  | 75 => ⟨S89927, .i32⟩
  | 76 => ⟨S_, .i32⟩
  | 77 => ⟨S_, .i32⟩
  | 78 => ⟨S89927, .i32⟩
  | 79 => ⟨S_, .i32⟩
  | 80 => ⟨S89927, .i32⟩
  | 81 => ⟨S89927, .i32⟩
  | 82 => ⟨S_, .i32⟩
  | 83 => ⟨S89927, .i32⟩
  | 84 => ⟨S89927, .i1⟩
  | 85 => ⟨S_, .i32⟩
  | 86 => ⟨S89927, .i32⟩
  | 87 => ⟨S89927, .i32⟩
  | 88 => ⟨S89927, .i32⟩
  | 89 => ⟨S89927x1, .i32⟩
  | 90 => ⟨S1, .i32⟩
  | 91 => ⟨S_, .i32⟩
  | 92 => ⟨S89927x1, .i32⟩
  | 93 => ⟨S89927x1, .i1⟩
  | 94 => ⟨S1x1, .i32⟩
  | 95 => ⟨S89927x1, .i32⟩
  | 96 => ⟨S89927x1, .i1⟩
  | 97 => ⟨S89927x1, .i1⟩
  | 98 => ⟨S_, .i1⟩
  | 99 => ⟨S89927, .i1⟩
  | 100 => ⟨S89927, .i32⟩
  | 101 => ⟨S_, .i32⟩
  | 102 => ⟨S89927, .i32⟩
  | 103 => ⟨S89927, .i32⟩
  | 104 => ⟨S89927, .i32⟩
  | 105 => ⟨S_, .i32⟩
  | 106 => ⟨S89927, .i32⟩
  | 107 => ⟨S89927, .i1⟩
  | 108 => ⟨S_, .i32⟩
  | 109 => ⟨S89927, .i32⟩
  | 110 => ⟨S89927, .i32⟩
  | 111 => ⟨S89927, .i32⟩
  | 112 => ⟨S89927x1, .i32⟩
  | 113 => ⟨S1, .i32⟩
  | 114 => ⟨S_, .i32⟩
  | 115 => ⟨S89927x1, .i32⟩
  | 116 => ⟨S89927x1, .i1⟩
  | 117 => ⟨S1x1, .i32⟩
  | 118 => ⟨S89927x1, .i32⟩
  | 119 => ⟨S89927x1, .i1⟩
  | 120 => ⟨S89927x1, .i1⟩
  | 121 => ⟨S_, .i1⟩
  | 122 => ⟨S89927, .i1⟩
  | 123 => ⟨S89927, .i32⟩
  | 124 => ⟨S_, .i32⟩
  | 125 => ⟨S89927, .i32⟩
  | 126 => ⟨S89927, .i32⟩
  | 127 => ⟨S89927, .i32⟩
  | _ => ⟨S89927x64, .f32⟩

abbrev hbmTy0_1 (i : Nat) : BufTy := match i % 128 with
  | 0 => ⟨S_, .f32⟩
  | 1 => ⟨S16384x10x64, .f32⟩
  | 2 => ⟨S_, .i32⟩
  | 3 => ⟨S89927, .i32⟩
  | 4 => ⟨S89927, .i1⟩
  | 5 => ⟨S_, .i32⟩
  | 6 => ⟨S89927, .i32⟩
  | 7 => ⟨S89927, .i32⟩
  | 8 => ⟨S89927, .i32⟩
  | 9 => ⟨S_, .i32⟩
  | 10 => ⟨S89927, .i32⟩
  | 11 => ⟨S89927, .i1⟩
  | 12 => ⟨S_, .i32⟩
  | 13 => ⟨S89927, .i32⟩
  | 14 => ⟨S89927, .i32⟩
  | 15 => ⟨S89927, .i32⟩
  | 16 => ⟨S89927x1, .i32⟩
  | 17 => ⟨S89927x1, .i32⟩
  | 18 => ⟨S89927x2, .i32⟩
  | 19 => ⟨S16384x10x64, .f32⟩
  | 20 => ⟨S16384x640, .f32⟩
  | 21 => ⟨S16384x9, .f32⟩
  | 22 => ⟨S1x9, .f32⟩
  | 23 => ⟨S16384x9, .f32⟩
  | 24 => ⟨S16384x9, .f32⟩
  | 25 => ⟨S_, .f32⟩
  | 26 => ⟨S16384, .f32⟩
  | 27 => ⟨S_, .f32⟩
  | 28 => ⟨S16384, .f32⟩
  | 29 => ⟨S16384, .f32⟩
  | 30 => ⟨S16384x1, .f32⟩
  | 31 => ⟨S16384x9, .f32⟩
  | 32 => ⟨S16384x9, .f32⟩
  | 33 => ⟨S16384x9, .f32⟩
  | 34 => ⟨S_, .f32⟩
  | 35 => ⟨S16384, .f32⟩
  | 36 => ⟨S16384x1, .f32⟩
  | 37 => ⟨S16384x9, .f32⟩
  | 38 => ⟨S16384x9, .f32⟩
  | 39 => ⟨S16384x9, .f32⟩
  | 40 => ⟨S1x9, .f32⟩
  | 41 => ⟨S16384x9, .f32⟩
  | 42 => ⟨S16384x9, .f32⟩
  | 43 => ⟨S_, .f32⟩
  | 44 => ⟨S16384, .f32⟩
  | 45 => ⟨S_, .f32⟩
  | 46 => ⟨S16384, .f32⟩
  | 47 => ⟨S16384, .f32⟩
  | 48 => ⟨S16384x1, .f32⟩
  | 49 => ⟨S16384x9, .f32⟩
  | 50 => ⟨S16384x9, .f32⟩
  | 51 => ⟨S16384x9, .f32⟩
  | 52 => ⟨S_, .f32⟩
  | 53 => ⟨S16384, .f32⟩
  | 54 => ⟨S16384x1, .f32⟩
  | 55 => ⟨S16384x9, .f32⟩
  | 56 => ⟨S16384x9, .f32⟩
  | _ => ⟨S89927x64, .f32⟩

abbrev hbmTy (i : Nat) : BufTy := match i / 128 with
  | 0 => hbmTy0_0 i
  | 1 => hbmTy0_1 i
  | _ => ⟨S89927x64, .f32⟩

abbrev bufTy : (tb : Table) → Fin (tcTables nBuf tb) → BufTy
  | .hbm, ⟨i, _⟩ => hbmTy i
  | _, _ => ⟨S89927x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_call1_cst : Ref sig .tc := ⟨.hbm, 39, rfl⟩
abbrev main_call1_v0 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_c : Ref sig .tc := ⟨.hbm, 45, rfl⟩
abbrev main_v10 : Ref sig .tc := ⟨.hbm, 46, rfl⟩
abbrev main_call2_call0_c : Ref sig .tc := ⟨.hbm, 47, rfl⟩
abbrev main_call2_call0_v0 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_call3_v0 : Ref sig .tc := ⟨.hbm, 53, rfl⟩
abbrev main_call3_v1 : Ref sig .tc := ⟨.hbm, 54, rfl⟩
abbrev main_v15 : Ref sig .tc := ⟨.hbm, 55, rfl⟩
abbrev main_c_0 : Ref sig .tc := ⟨.hbm, 56, rfl⟩
abbrev main_v16 : Ref sig .tc := ⟨.hbm, 57, rfl⟩
abbrev main_c_1 : Ref sig .tc := ⟨.hbm, 58, rfl⟩
abbrev main_v17 : Ref sig .tc := ⟨.hbm, 59, rfl⟩
abbrev main_call4_call0_c : Ref sig .tc := ⟨.hbm, 60, rfl⟩
abbrev main_call4_call0_v0 : Ref sig .tc := ⟨.hbm, 61, rfl⟩
abbrev main_v18 : Ref sig .tc := ⟨.hbm, 62, rfl⟩
abbrev main_c_2 : Ref sig .tc := ⟨.hbm, 63, rfl⟩
abbrev main_v19 : Ref sig .tc := ⟨.hbm, 64, rfl⟩
abbrev main_c_3 : Ref sig .tc := ⟨.hbm, 65, rfl⟩
abbrev main_v20 : Ref sig .tc := ⟨.hbm, 66, rfl⟩
abbrev main_v21 : Ref sig .tc := ⟨.hbm, 67, rfl⟩
abbrev main_c_4 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_c_5 : Ref sig .tc := ⟨.hbm, 73, rfl⟩
abbrev main_v26 : Ref sig .tc := ⟨.hbm, 74, rfl⟩
abbrev main_v27 : Ref sig .tc := ⟨.hbm, 75, rfl⟩
abbrev main_call5_call0_c : Ref sig .tc := ⟨.hbm, 76, rfl⟩
abbrev main_call5_call0_v0 : Ref sig .tc := ⟨.hbm, 77, rfl⟩
abbrev main_v28 : Ref sig .tc := ⟨.hbm, 78, rfl⟩
abbrev main_c_6 : Ref sig .tc := ⟨.hbm, 79, rfl⟩
abbrev main_v29 : Ref sig .tc := ⟨.hbm, 80, rfl⟩
abbrev main_v30 : Ref sig .tc := ⟨.hbm, 81, rfl⟩
abbrev main_call6_c : Ref sig .tc := ⟨.hbm, 82, rfl⟩
abbrev main_call6_v0 : Ref sig .tc := ⟨.hbm, 83, rfl⟩
abbrev main_call6_v1 : Ref sig .tc := ⟨.hbm, 84, rfl⟩
abbrev main_call6_c_0 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_call6_v5 : Ref sig .tc := ⟨.hbm, 89, rfl⟩
abbrev main_call6_c_1 : Ref sig .tc := ⟨.hbm, 90, rfl⟩
abbrev main_call6_c_2 : Ref sig .tc := ⟨.hbm, 91, rfl⟩
abbrev main_call6_v6 : Ref sig .tc := ⟨.hbm, 92, rfl⟩
abbrev main_call6_v7 : Ref sig .tc := ⟨.hbm, 93, rfl⟩
abbrev main_call6_v8 : Ref sig .tc := ⟨.hbm, 94, rfl⟩
abbrev main_call6_v9 : Ref sig .tc := ⟨.hbm, 95, rfl⟩
abbrev main_call6_v10 : Ref sig .tc := ⟨.hbm, 96, rfl⟩
abbrev main_call6_v11 : Ref sig .tc := ⟨.hbm, 97, rfl⟩
abbrev main_call6_c_3 : Ref sig .tc := ⟨.hbm, 98, rfl⟩
abbrev main_call6_v12 : Ref sig .tc := ⟨.hbm, 99, rfl⟩
abbrev main_call6_v13 : Ref sig .tc := ⟨.hbm, 100, rfl⟩
abbrev main_call6_c_4 : Ref sig .tc := ⟨.hbm, 101, rfl⟩
abbrev main_call6_v14 : Ref sig .tc := ⟨.hbm, 102, rfl⟩
abbrev main_v31 : Ref sig .tc := ⟨.hbm, 103, rfl⟩
abbrev main_v32 : Ref sig .tc := ⟨.hbm, 104, rfl⟩
abbrev main_call7_c : Ref sig .tc := ⟨.hbm, 105, rfl⟩
abbrev main_call7_v0 : Ref sig .tc := ⟨.hbm, 106, rfl⟩
abbrev main_call7_v1 : Ref sig .tc := ⟨.hbm, 107, rfl⟩
abbrev main_call7_c_0 : Ref sig .tc := ⟨.hbm, 108, rfl⟩
abbrev main_call7_v2 : Ref sig .tc := ⟨.hbm, 109, rfl⟩
abbrev main_call7_v3 : Ref sig .tc := ⟨.hbm, 110, rfl⟩
abbrev main_call7_v4 : Ref sig .tc := ⟨.hbm, 111, rfl⟩
abbrev main_call7_v5 : Ref sig .tc := ⟨.hbm, 112, rfl⟩
abbrev main_call7_c_1 : Ref sig .tc := ⟨.hbm, 113, rfl⟩
abbrev main_call7_c_2 : Ref sig .tc := ⟨.hbm, 114, rfl⟩
abbrev main_call7_v6 : Ref sig .tc := ⟨.hbm, 115, rfl⟩
abbrev main_call7_v7 : Ref sig .tc := ⟨.hbm, 116, rfl⟩
abbrev main_call7_v8 : Ref sig .tc := ⟨.hbm, 117, rfl⟩
abbrev main_call7_v9 : Ref sig .tc := ⟨.hbm, 118, rfl⟩
abbrev main_call7_v10 : Ref sig .tc := ⟨.hbm, 119, rfl⟩
abbrev main_call7_v11 : Ref sig .tc := ⟨.hbm, 120, rfl⟩
abbrev main_call7_c_3 : Ref sig .tc := ⟨.hbm, 121, rfl⟩
abbrev main_call7_v12 : Ref sig .tc := ⟨.hbm, 122, rfl⟩
abbrev main_call7_v13 : Ref sig .tc := ⟨.hbm, 123, rfl⟩
abbrev main_call7_c_4 : Ref sig .tc := ⟨.hbm, 124, rfl⟩
abbrev main_call7_v14 : Ref sig .tc := ⟨.hbm, 125, rfl⟩
abbrev main_v33 : Ref sig .tc := ⟨.hbm, 126, rfl⟩
abbrev main_v34 : Ref sig .tc := ⟨.hbm, 127, rfl⟩
abbrev main_cst : Ref sig .tc := ⟨.hbm, 128, rfl⟩
abbrev main_v35 : Ref sig .tc := ⟨.hbm, 129, rfl⟩
abbrev main_c_7 : Ref sig .tc := ⟨.hbm, 130, rfl⟩
abbrev main_v36 : Ref sig .tc := ⟨.hbm, 131, rfl⟩
abbrev main_v37 : Ref sig .tc := ⟨.hbm, 132, rfl⟩
abbrev main_c_8 : Ref sig .tc := ⟨.hbm, 133, rfl⟩
abbrev main_v38 : Ref sig .tc := ⟨.hbm, 134, rfl⟩
abbrev main_v39 : Ref sig .tc := ⟨.hbm, 135, rfl⟩
abbrev main_v40 : Ref sig .tc := ⟨.hbm, 136, rfl⟩
abbrev main_c_9 : Ref sig .tc := ⟨.hbm, 137, rfl⟩
abbrev main_v41 : Ref sig .tc := ⟨.hbm, 138, rfl⟩
abbrev main_v42 : Ref sig .tc := ⟨.hbm, 139, rfl⟩
abbrev main_c_10 : Ref sig .tc := ⟨.hbm, 140, rfl⟩
abbrev main_v43 : Ref sig .tc := ⟨.hbm, 141, rfl⟩
abbrev main_v44 : Ref sig .tc := ⟨.hbm, 142, rfl⟩
abbrev main_v45 : Ref sig .tc := ⟨.hbm, 143, rfl⟩
abbrev main_v46 : Ref sig .tc := ⟨.hbm, 144, rfl⟩
abbrev main_v47 : Ref sig .tc := ⟨.hbm, 145, rfl⟩
abbrev main_v48 : Ref sig .tc := ⟨.hbm, 146, rfl⟩
abbrev main_v49 : Ref sig .tc := ⟨.hbm, 147, rfl⟩
abbrev main_v50 : Ref sig .tc := ⟨.hbm, 148, rfl⟩
abbrev main_v51 : Ref sig .tc := ⟨.hbm, 149, rfl⟩
abbrev main_v52 : Ref sig .tc := ⟨.hbm, 150, rfl⟩
abbrev main_v53 : Ref sig .tc := ⟨.hbm, 151, rfl⟩
abbrev main_v54 : Ref sig .tc := ⟨.hbm, 152, rfl⟩
abbrev main_cst_11 : Ref sig .tc := ⟨.hbm, 153, rfl⟩
abbrev main_v55 : Ref sig .tc := ⟨.hbm, 154, rfl⟩
abbrev main_cst_12 : Ref sig .tc := ⟨.hbm, 155, rfl⟩
abbrev main_v56 : Ref sig .tc := ⟨.hbm, 156, rfl⟩
abbrev main_v57 : Ref sig .tc := ⟨.hbm, 157, rfl⟩
abbrev main_v58 : Ref sig .tc := ⟨.hbm, 158, rfl⟩
abbrev main_v59 : Ref sig .tc := ⟨.hbm, 159, rfl⟩
abbrev main_v60 : Ref sig .tc := ⟨.hbm, 160, rfl⟩
abbrev main_v61 : Ref sig .tc := ⟨.hbm, 161, rfl⟩
abbrev main_cst_13 : Ref sig .tc := ⟨.hbm, 162, rfl⟩
abbrev main_v62 : Ref sig .tc := ⟨.hbm, 163, rfl⟩
abbrev main_v63 : Ref sig .tc := ⟨.hbm, 164, rfl⟩
abbrev main_v64 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_cst_14 : Ref sig .tc := ⟨.hbm, 171, rfl⟩
abbrev main_v70 : Ref sig .tc := ⟨.hbm, 172, rfl⟩
abbrev main_cst_15 : Ref sig .tc := ⟨.hbm, 173, rfl⟩
abbrev main_v71 : Ref sig .tc := ⟨.hbm, 174, rfl⟩
abbrev main_v72 : Ref sig .tc := ⟨.hbm, 175, rfl⟩
abbrev main_v73 : Ref sig .tc := ⟨.hbm, 176, rfl⟩
abbrev main_v74 : Ref sig .tc := ⟨.hbm, 177, rfl⟩
abbrev main_v75 : Ref sig .tc := ⟨.hbm, 178, rfl⟩
abbrev main_v76 : Ref sig .tc := ⟨.hbm, 179, rfl⟩
abbrev main_cst_16 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩

abbrev nD : Nat := 1
abbrev τ : Topo := Topo.v7x

variable {F : FTy → Type} [FloatOps F]
-- ==== Proof.Boxes.lean ====
/- What the precondition says, and the running offsets of the boxes: `len` is a box's number of rows, `offs n` the number of rows
   before box `n`. From the predicate of the claims: every box has one to ten rows, every class index is below nine, and the boxes
   together have 89927 rows. -/
module

public import proofs.«01_k».proof.Pre_boxes_fill_rows
public import Idealize.ShloMosaic.Lib.Routing.Ops
public import Idealize.ShloMosaic.Lib.ReduceAll
public import Idealize.ShloMosaic.Lib.WordCmp
public import Idealize.ShloMosaic.Lib.Pipeline.Value

@[expose] public section

namespace Cert.Proof.Boxes

open Idealize.ShloMosaic Idealize.ShloMosaic.ValueIdx Idealize.ShloMosaic.WordCmp Idealize.ShloMosaic.Routing
open Cert.Pre_boxes_fill_rows

/-- The side conditions of the predicate's operations. -/
theorem preFacts : Cert.Pre_boxes_fill_rows.Facts where
  bcast_S_S89927 := by decide
  reducesTo_S89927_S_d0 := by decide
  h_S_ := by decide
  bcast_S_S16384 := by decide
  reducesTo_S16384_S_d0 := by decide

/-- The number of rows of box `b`. -/
def len (bl : IVec S16384 32) (b : Nat) : Nat := if h : b < 16384 then (bl (ix1 ⟨b, h⟩)).toNat else 0

/-- The number of rows of the first `n` boxes. -/
def offs (bl : IVec S16384 32) (n : Nat) : Nat := ((List.range n).map (len bl)).sum

/-- The class index of row `r`. -/
def cls (pr : IVec S89927 32) (r : Nat) : Nat := if h : r < 89927 then (pr (ix1 ⟨r, h⟩)).toNat else 0

/-- What the precondition says of the class indices and the box lengths. -/
structure Good (pr : IVec S89927 32) (bl : IVec S16384 32) : Prop where
  cls_lt : ∀ r, cls pr r < 9
  len_pos : ∀ b, b < 16384 → 1 ≤ len bl b
  len_le : ∀ b, len bl b ≤ 10
  sum : offs bl 16384 = 89927

variable (pr : IVec S89927 32) (bl : IVec S16384 32)

theorem len_word (i : Fin 16384) : bl (ix1 i) = BitVec.ofNat 32 (len bl i.val) := by
  unfold len
  rw [dif_pos i.isLt, BitVec.ofNat_toNat, BitVec.setWidth_eq]

theorem cls_word (i : Fin 89927) : pr (ix1 i) = BitVec.ofNat 32 (cls pr i.val) := by
  unfold cls
  rw [dif_pos i.isLt, BitVec.ofNat_toNat, BitVec.setWidth_eq]

theorem offs_zero : offs bl 0 = 0 := rfl

theorem offs_succ (n : Nat) : offs bl (n + 1) = offs bl n + len bl n := by
  unfold offs
  rw [List.range_succ, List.map_append, List.sum_append, List.map_singleton, List.sum_singleton]

theorem offs_mono {a b : Nat} (h : a ≤ b) : offs bl a ≤ offs bl b := by
  induction h with
  | refl => exact le_rfl
  | step _ ih => exact ih.trans (by rw [offs_succ]; omega)

theorem offs_le_mul (h : ∀ b, len bl b ≤ 10) (n : Nat) : offs bl n ≤ 10 * n := by
  induction n with
  | zero => exact le_rfl
  | succ n ih => rw [offs_succ]; have := h n; omega

/-- A word at least 0 and below 9, signed, is a number below 9. -/
theorem word_lt_nine (x : BitVec 32) (h0 : IntOp.cmpi .sge x 0#32 = 1#1) (h9 : IntOp.cmpi .slt x 9#32 = 1#1) : x.toNat < 9 := by
  rw [cmpi_sge_eq, ofBool_decide_eq_one_iff, show (0#32).toInt = 0 from by decide, BitVec.toInt_eq_toNat_cond] at h0
  rw [cmpi_slt_eq, ofBool_decide_eq_one_iff, show (9#32).toInt = 9 from by decide, BitVec.toInt_eq_toNat_cond] at h9
  have := x.isLt
  split at h0 <;> split at h9 <;> omega

/-- A word from 1 to 10, signed, is a number from 1 to 10. -/
theorem word_one_ten (x : BitVec 32) (h0 : IntOp.cmpi .sge x 1#32 = 1#1) (h9 : IntOp.cmpi .sle x 10#32 = 1#1) :
    1 ≤ x.toNat ∧ x.toNat ≤ 10 := by
  rw [cmpi_sge_eq, ofBool_decide_eq_one_iff, show (1#32).toInt = 1 from by decide, BitVec.toInt_eq_toNat_cond] at h0
  rw [cmpi_sle_eq, ofBool_decide_eq_one_iff, show (10#32).toInt = 10 from by decide, BitVec.toInt_eq_toNat_cond] at h9
  have := x.isLt
  split at h0 <;> split at h9 <;> omega

theorem andi_one (a b : BitVec 1) : IntOp.andi a b = 1#1 ↔ a = 1#1 ∧ b = 1#1 := by revert a b; decide

instance : Subsingleton S_.Idx := ⟨fun a b => funext fun i => i.elim0⟩

/-- The predicate of the claims, decoded. -/
theorem good_of_fn [Cert.Pre_boxes_fill_rows.Facts] {F : FTy → Type} [FloatOps F] (a0 : FVec F S89927x64 .f32)
    (a3 : FVec F S89927 .f32) (a4 : FVec F S64x64 .f32) (a5 : FVec F S64 .f32) (a6 : FVec F S9x64 .f32) (a7 : FVec F S640x9 .f32)
    (a8 : FVec F S9 .f32) (a9 : FVec F S9x9 .f32) (a10 : FVec F S9 .f32)
    (h : Cert.Pre_boxes_fill_rows.fn a0 pr bl a3 a4 a5 a6 a7 a8 a9 a10 = fun _ => 1#1) : Good pr bl := by
  have h1 := congrFun h ix0
  simp only [Cert.Pre_boxes_fill_rows.fn, andi, andi_one] at h1
  obtain ⟨⟨hp, hl⟩, hs⟩ := h1
  have hp' : ∀ i : Fin 89927, (pr (ix1 i)).toNat < 9 := fun i => by
    have e := Host.reduce_andi_all _ _ _ _ _ hp (ix1 i)
    simp only [andi, andi_one] at e
    exact word_lt_nine _ e.1 e.2
  have hl' : ∀ i : Fin 16384, 1 ≤ (bl (ix1 i)).toNat ∧ (bl (ix1 i)).toNat ≤ 10 := fun i => by
    have e := Host.reduce_andi_all _ _ _ _ _ hl (ix1 i)
    simp only [andi, andi_one] at e
    exact word_one_ten _ e.1 e.2
  have hle : ∀ b, len bl b ≤ 10 := fun b => by
    unfold len
    split
    · exact (hl' _).2
    · omega
  refine ⟨fun r => ?_, fun b hb => ?_, hle, ?_⟩
  · unfold cls
    split
    · exact hp' _
    · omega
  · unfold len
    rw [dif_pos hb]
    exact (hl' _).1
  · have e := reduce_sum (N := 16384) bl (len bl) (len_word bl) Facts.reducesTo_S16384_S_d0 Facts.h_S_
    have hs' := hs
    unfold cmpi at hs'
    rw [cmpi_eq_eq, ofBool_decide_eq_one_iff] at hs'
    have e2 : BitVec.ofNat 32 (offs bl 16384) = 89927#32 := e.symm.trans hs'
    have hb := offs_le_mul bl hle 16384
    exact (ofNat_eq_ofNat_iff (by omega) (by omega)).1 e2

variable {pr bl}

theorem Good.offs_le (g : Good pr bl) {n : Nat} (h : n ≤ 16384) : offs bl n ≤ 89927 := g.sum ▸ offs_mono bl h

theorem Good.offs_add_lt (g : Good pr bl) {b s : Nat} (hb : b < 16384) (hs : s < len bl b) : offs bl b + s < 89927 := by
  have := g.offs_le (n := b + 1) (by omega)
  rw [offs_succ] at this
  omega

/-- A place `r` lies in exactly one box: the boxes' row ranges are disjoint. -/
theorem offs_unique {a b r : Nat} (ha : offs bl a ≤ r) (ha' : r < offs bl (a + 1)) (hb : offs bl b ≤ r) (hb' : r < offs bl (b + 1)) :
    a = b := by
  rcases lt_trichotomy a b with h | h | h
  · have := offs_mono bl (show a + 1 ≤ b from h); omega
  · exact h
  · have := offs_mono bl (show b + 1 ≤ a from h); omega

/-- The running sums as the programs compute them: entry `j` holds the number of rows of the first `j + 1` boxes. -/
theorem cumsum_word (init : IVec shape0 32) (hinit : init ix0 = 0#32)
    (h : (shape1 16384).ReduceWindows (![16384] : Fin 1 → Nat) ![1] ![16383] ![0] (shape1 16384)) (hu : 0 < shape0.numel) (j : Fin 16384) :
    Host.reduceWindow IntOp.addi ![16384] ![1] ![16383] ![0] bl init h hu (ix1 j) = BitVec.ofNat 32 (offs bl (j.val + 1)) :=
  cumsum1 (by decide) bl (len bl) (len_word bl) init hinit h hu j

/-- A zero put before running sums: entry `j` holds the number of rows of the first `j` boxes. -/
theorem concat_word {N M : Nat} (hN : N = M + 1) (z : IVec (shape1 1) 32) (hz : z (ix1 0) = 0#32) (y : IVec (shape1 M) 32)
    (hy : ∀ j : Fin M, y (ix1 j) = BitVec.ofNat 32 (offs bl (j.val + 1)))
    (h : Shape.Concatenates [shape1 1, shape1 M] (shape1 N) 0) (j : Fin N) :
    concatenate (shape1 N) 0 [⟨shape1 1, z⟩, ⟨shape1 M, y⟩] h (ix1 j) = BitVec.ofNat 32 (offs bl j.val) := by
  have hj := j.isLt
  by_cases h0 : j.val = 0
  · rw [concatenate_pair_apply_left (0 : Fin (shape1 N).rank) z y h (ix1 j) rfl (ix1 (0 : Fin 1)) (fun b => by
      match b with
      | ⟨0, _⟩ => exact h0.symm), hz, h0, offs_zero]
  · have e : (⟨j.val - 1, by omega⟩ : Fin M).val + 1 = j.val := by show j.val - 1 + 1 = j.val; omega
    rw [concatenate_pair_apply_right (0 : Fin (shape1 N).rank) z y h (ix1 j) rfl rfl (ix1 ⟨j.val - 1, by omega⟩)
      (fun b hb => by
        match b with
        | ⟨0, _⟩ => exact absurd rfl hb) e, hy, e]

end Cert.Proof.Boxes
-- ==== Proof.RefRun.lean ====
/- The reference runs, leaves its arguments alone and ends with every semaphore at zero. -/
module

public import proofs.«01_k».proof.Defs
public import proofs.«01_k».proof.Proof.Gen.ReferenceIdeal
public import Idealize.ShloMosaic.Lib.Claim
public import Idealize.ShloMosaic.Lib.Quiescent

@[expose] public section

noncomputable section

namespace Cert.Proof

open Idealize.ShloMosaic Idealize.SL.Sem

theorem frame_R [Cert.ReferenceIdeal.Facts] : Cert.quiescent_ReferenceIdeal := by
  intro m g _
  hlo_run
  · simp
  · exact sem_eq_zero_of_no_sems (by decide) _

end Cert.Proof
end
-- ==== Proof.RefTerm.lean ====
/- The reference's result as one term of its arguments, cut into named parts, and the run that leaves it. -/
module

public import proofs.«01_k».proof.Defs
public import proofs.«01_k».proof.Proof.Gen.ReferenceIdeal
public import Idealize.ShloMosaic.Lib.Claim
public import Idealize.ShloMosaic.Lib.StableHlo.RunRead

@[expose] public section

set_option maxRecDepth 16384

noncomputable section

namespace Cert.ReferenceIdeal

open Idealize.ShloMosaic Idealize.SL.Sem
open Facts₀ Facts

variable [Cert.ReferenceIdeal.Facts]

/-- A vector of words with the negative ones counted from the end of an axis of `n`. -/
def wrapR (n : BitVec 32) (i : IVec S89927 32) : IVec S89927 32 :=
  select (cmpi .slt i (broadcastInDim S89927 ![] bcast_S_S89927 (constantI S_ 32 0#32)))
    (addi i (broadcastInDim S89927 ![] bcast_S_S89927 (constantI S_ 32 n))) i

/-- Which of the words of a column lie in `[0, n]`. -/
def insideR (n : BitVec 32) (i : IVec S89927x1 32) : IVec S89927 1 :=
  Host.reduce IntOp.andi
    (andi (cmpi .sge i (broadcastInDim S89927x1 ![] bcast_S_S89927x1 (constantI S_ 32 0#32)))
      (cmpi .sle i (broadcastInDim S89927x1 ![0, 1] bcast_S1x1_S89927x1_0_1 (broadcastInDim S1x1 ![1] bcast_S1_S1x1_1 (constantI S1 32 n)))))
    (constantI S_ 1 1#1) reducesTo_S89927x1_S89927_d1 h_S_

/-- A vector of words as a column. -/
def colR (i : IVec S89927 32) : IVec S89927x1 32 := broadcastInDim S89927x1 ![0] bcast_S89927_S89927x1_0 i

/-- The words of `x` at the places `i`. -/
def takeR (x : IVec S16384 32) (i : IVec S89927 32) : IVec S89927 32 :=
  select (insideR 16383#32 (colR (wrapR 16384#32 i)))
    (Host.gather gather_S16384_S89927x1_S89927_n_0_n_n_0_1_1 x (colR (wrapR 16384#32 i)))
    (broadcastInDim S89927 ![] bcast_S_S89927 (constantI S_ 32 2147483648#32))

/-- The rows of the embedding table at the class indices `i`. -/
def embR (x : FVec Ideal S9x64 .f32) (i : IVec S89927 32) : FVec Ideal S89927x64 .f32 :=
  select (broadcastInDim S89927x64 ![0] bcast_S89927_S89927x64_0 (insideR 8#32 (colR (wrapR 9#32 i))))
    (Host.gather gather_S9x64_S89927x1_S89927x64_1_0_n_n_0_1_164 x (colR (wrapR 9#32 i)))
    (broadcastInDim S89927x64 ![] bcast_S_S89927x64 (constant (F := Ideal) S_ .f32 0x7FC00000#32))

/-- The hidden rows, of the rows `x` and their embedding rows `e`. -/
def hidR (x e : FVec Ideal S89927x64 .f32) (cf : FVec Ideal S89927 .f32) (ws : FVec Ideal S64x64 .f32)
    (bs : FVec Ideal S64 .f32) : FVec Ideal S89927x64 .f32 :=
  mulf (maximumf (addf (Host.dotGeneral dot_S89927x64_S64x64_S89927x64_1_0_0_1_n_n none (addf x e) ws)
      (broadcastInDim S89927x64 ![0, 1] bcast_S1x64_S89927x64_0_1 (broadcastInDim S1x64 ![1] bcast_S64_S1x64_1 bs)))
      (broadcastInDim S89927x64 ![] bcast_S_S89927x64 (constant (F := Ideal) S_ .f32 0x00000000#32)))
    (broadcastInDim S89927x64 ![0, 1] bcast_S89927x1_S89927x64_0_1 (broadcastInDim S89927x1 ![0] bcast_S89927_S89927x1_0 cf))

/-- Running sums over the boxes. -/
def sumR (t : IVec S16384 32) : IVec S16384 32 :=
  Host.reduceWindow IntOp.addi ![16384] ![1] ![16383] ![0] t (broadcastInDim S_ ![] bcast_S_S_ (constantI S_ 32 0#32))
    reduceWindows_S16384_S16384_w16384s1p16383_0 h_S_

/-- The first 16383 words. -/
def initR (t : IVec S16384 32) : IVec S16383 32 := extractStridedSlice S16383 ![0] t slices_S16384_S16383_0

/-- The last word. -/
def lastR (t : IVec S16384 32) : IVec S1 32 := extractStridedSlice S1 ![16383] t slices_S16384_S1_16383

/-- One zero word. -/
def zeroR : IVec S1 32 := broadcastInDim S1 ![] bcast_S_S1 (constantI S_ 32 0#32)

/-- A word put before 16383 words. -/
def frontR (a : IVec S1 32) (b : IVec S16383 32) : IVec S16384 32 :=
  concatenate S16384 0 [⟨S1, a⟩, ⟨S16383, b⟩] concatenates_S1_S16383_S16384_d0

/-- The words with the first set to zero. -/
def clearR (t : IVec S16384 32) : IVec S16384 32 :=
  Host.scatter scatter_S16384_S1_S__n_0_0_0 (fun _ b => b) t zeroR (constantI S_ 32 0#32)

/-- The running sums of the box lengths, shifted by one box. -/
def offR (bl : IVec S16384 32) : IVec S16384 32 := frontR zeroR (initR (sumR bl))

/-- The box lengths turned round by one box, the first set to zero. -/
def turnR (bl : IVec S16384 32) : IVec S16384 32 := clearR (frontR (lastR bl) (initR bl))

/-- The words `s` as places of an axis of 89927. -/
def placeR (s : IVec S16384 32) : IVec S16384x1 32 :=
  broadcastInDim S16384x1 ![0] bcast_S16384_S16384x1_0
    (select (cmpi .slt s (broadcastInDim S16384 ![] bcast_S_S16384 (constantI S_ 32 0#32)))
      (addi s (broadcastInDim S16384 ![] bcast_S_S16384 (constantI S_ 32 89927#32))) s)

/-- How many of the words `s` name each row. -/
def histR (s : IVec S16384 32) : IVec S89927 32 :=
  Host.scatter scatter_S89927_S16384x1_S16384_n_0_0_1 IntOp.addi (broadcastInDim S89927 ![] bcast_S_S89927 (constantI S_ 32 0#32))
    (placeR s) (broadcastInDim S16384 ![] bcast_S_S16384 (constantI S_ 32 1#32))

/-- The running sums of `t`, less one. -/
def rankR (t : IVec S89927 32) : IVec S89927 32 :=
  subi (Host.reduceWindow IntOp.addi ![89927] ![1] ![89926] ![0] t (broadcastInDim S_ ![] bcast_S_S_ (constantI S_ 32 0#32))
    reduceWindows_S89927_S89927_w89927s1p89926_0 h_S_) (broadcastInDim S89927 ![] bcast_S_S89927 (constantI S_ 32 1#32))

/-- The box of each row. -/
def boxR (bl : IVec S16384 32) : IVec S89927 32 := takeR (iotaInDim S16384 32 0) (rankR (histR (sumR (turnR bl))))

/-- Two columns side by side. -/
def besideR (a b : IVec S89927x1 32) : IVec S89927x2 32 :=
  concatenate S89927x2 1 [⟨S89927x1, a⟩, ⟨S89927x1, b⟩] concatenates_S89927x1_S89927x1_S89927x2_d1

/-- Box `b` and place of each row, side by side, the place counted from the word of `o` at the box. -/
def pairR (o b : IVec S89927 32) : IVec S89927x2 32 :=
  besideR (colR (wrapR 16384#32 b)) (colR (wrapR 10#32 (subi (iotaInDim S89927 32 0) o)))

/-- No rows at any box. -/
def blankR : FVec Ideal S16384x10x64 .f32 :=
  broadcastInDim S16384x10x64 ![] bcast_S_S16384x10x64 (constant (F := Ideal) S_ .f32 0x00000000#32)

/-- The rows `h` put at the places `p` of `z`. -/
def padR (z : FVec Ideal S16384x10x64 .f32) (p : IVec S89927x2 32) (h : FVec Ideal S89927x64 .f32) : FVec Ideal S16384x10x64 .f32 :=
  Host.scatter scatter_S16384x10x64_S89927x2_S89927x64_1_01_01_1 (fun _ b => b) z p h

/-- The exponentials of the rows less their greatest entries. -/
def expR (v : FVec Ideal S16384x9 .f32) : FVec Ideal S16384x9 .f32 :=
  Host.exp (subf v (broadcastInDim S16384x9 ![0, 1] bcast_S16384x1_S16384x9_0_1 (broadcastInDim S16384x1 ![0] bcast_S16384_S16384x1_0
    (maximumf (broadcastInDim S16384 ![] bcast_S_S16384 (constant (F := Ideal) S_ .f32 0xFF800000#32))
      (Host.reduce (FloatOps.maximumf (F := Ideal) (φ := .f32)) v (constant (F := Ideal) S_ .f32 0xFF800000#32) reducesTo_S16384x9_S16384_d1 h_S_)))))

/-- The softmax of the rows. -/
def softR (v : FVec Ideal S16384x9 .f32) : FVec Ideal S16384x9 .f32 :=
  Host.divf (expR v) (broadcastInDim S16384x9 ![0, 1] bcast_S16384x1_S16384x9_0_1 (broadcastInDim S16384x1 ![0] bcast_S16384_S16384x1_0
    (Host.reduceAdd (expR v) (constant (F := Ideal) S_ .f32 0x00000000#32) reducesTo_S16384x9_S16384_d1 h_S_)))

/-- A row of nine put under every box. -/
def rowsR (b : FVec Ideal S9 .f32) : FVec Ideal S16384x9 .f32 :=
  broadcastInDim S16384x9 ![0, 1] bcast_S1x9_S16384x9_0_1 (broadcastInDim S1x9 ![1] bcast_S9_S1x9_1 b)

/-- The scores of the boxes, their row of nine added. -/
def scoreR (h : FVec Ideal S16384x10x64 .f32) (wb : FVec Ideal S640x9 .f32) (bb : FVec Ideal S9 .f32) : FVec Ideal S16384x9 .f32 :=
  addf (Host.dotGeneral dot_S16384x640_S640x9_S16384x9_1_0_0_1_n_n none
      (shapeCast S16384x640 h shapeCasts_S16384x10x64_S16384x640) wb) (rowsR bb)

/-- The second layer on the class shares. -/
def mixR (v : FVec Ideal S16384x9 .f32) (w2 : FVec Ideal S9x9 .f32) (b2 : FVec Ideal S9 .f32) : FVec Ideal S16384x9 .f32 :=
  addf (Host.dotGeneral dot_S16384x9_S9x9_S16384x9_1_0_0_1_n_n none v w2) (rowsR b2)

/-- The reference's result. -/
def resR (x : FVec Ideal S89927x64 .f32) (pr : IVec S89927 32) (bl : IVec S16384 32) (cf : FVec Ideal S89927 .f32) (ws : FVec Ideal S64x64 .f32)
    (bs : FVec Ideal S64 .f32) (pe : FVec Ideal S9x64 .f32) (wb : FVec Ideal S640x9 .f32) (bb : FVec Ideal S9 .f32) (w2 : FVec Ideal S9x9 .f32)
    (b2 : FVec Ideal S9 .f32) : FVec Ideal S16384x9 .f32 :=
  softR (mixR (softR (scoreR (padR blankR (pairR (takeR (offR bl) (boxR bl)) (boxR bl)) (hidR x (embR pe pr) cf ws bs)) wb bb)) w2 b2)

/-- The reference's operations, in order. -/
def refOps : {ops : List (HloOp τ sig (Elt Ideal)) // ∀ d, StableHlo.IsSeq (main (F := Ideal) d) ops} := by
  apply Subtype.mk
  hlo_seq

/-- The buffers' contents at the reference's end, from contents `V`. -/
abbrev endR (V : Valuation τ sig (Elt Ideal)) (b : Ref sig .tc) := StableHlo.after refOps.1 V (Proc.devRef (τ := τ) .tc b)

theorem after_two (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The end, read from the `n`-th operation on. -/
theorem cutR (n : Nat) (V : Valuation τ sig (Elt Ideal)) :
    ∃ X, StableHlo.after refOps.1 V = StableHlo.after (refOps.1.drop n) X :=
  ⟨StableHlo.after (refOps.1.take n) V, by rw [← after_two, List.take_append_drop]⟩

variable (V : Valuation τ sig (Elt Ideal))

theorem end_v0 : endR V main_v0 = embR (endR V main_arg6) (endR V main_arg1) := by
  obtain ⟨X, hX⟩ := cutR 0 V
  simp only [endR, hX]
  after_reads_simp
  try simp -implicitDefEqProofs only [StableHlo.TRef.toBuf, StableHlo.TRef.ofBuf, cast_cast, cast_eq]
  try rfl

theorem end_v9 : endR V main_v9 = hidR (endR V main_arg0) (endR V main_v0) (endR V main_arg3) (endR V main_arg4) (endR V main_arg5) := by
  obtain ⟨X, hX⟩ := cutR 23 V
  simp only [endR, hX]
  after_reads_simp
  try simp -implicitDefEqProofs only [StableHlo.TRef.toBuf, StableHlo.TRef.ofBuf, cast_cast, cast_eq]
  try rfl

theorem end_v10 : endR V main_v10 = zeroR := by
  obtain ⟨X, hX⟩ := cutR 34 V
  simp only [endR, hX]
  after_reads_simp
  try simp -implicitDefEqProofs only [StableHlo.TRef.toBuf, StableHlo.TRef.ofBuf, cast_cast, cast_eq]
  try rfl

theorem end_v12 : endR V main_v12 = initR (sumR (endR V main_arg2)) := by
  obtain ⟨X, hX⟩ := cutR 36 V
  simp only [endR, hX]
  after_reads_simp
  try simp -implicitDefEqProofs only [StableHlo.TRef.toBuf, StableHlo.TRef.ofBuf, cast_cast, cast_eq]
  try rfl

theorem end_v13 : endR V main_v13 = frontR (endR V main_v10) (endR V main_v12) := by
  obtain ⟨X, hX⟩ := cutR 40 V
  simp only [endR, hX]
  after_reads_simp
  try simp -implicitDefEqProofs only [StableHlo.TRef.toBuf, StableHlo.TRef.ofBuf, cast_cast, cast_eq]
  try rfl

theorem end_v14 : endR V main_v14 = iotaInDim S16384 32 0 := by
  obtain ⟨X, hX⟩ := cutR 41 V
  simp only [endR, hX]
  after_reads_simp
  try simp -implicitDefEqProofs only [StableHlo.TRef.toBuf, StableHlo.TRef.ofBuf, cast_cast, cast_eq]
  try rfl

theorem end_call3_v0 : endR V main_call3_v0 = lastR (endR V main_arg2) := by
  obtain ⟨X, hX⟩ := cutR 42 V
  simp only [endR, hX]
  after_reads_simp
  try simp -implicitDefEqProofs only [StableHlo.TRef.toBuf, StableHlo.TRef.ofBuf, cast_cast, cast_eq]
  try rfl

theorem end_call3_v1 : endR V main_call3_v1 = initR (endR V main_arg2) := by
  obtain ⟨X, hX⟩ := cutR 43 V
  simp only [endR, hX]
  after_reads_simp
  try simp -implicitDefEqProofs only [StableHlo.TRef.toBuf, StableHlo.TRef.ofBuf, cast_cast, cast_eq]
  try rfl

theorem end_v15 : endR V main_v15 = frontR (endR V main_call3_v0) (endR V main_call3_v1) := by
  obtain ⟨X, hX⟩ := cutR 44 V
  simp only [endR, hX]
  after_reads_simp
  try simp -implicitDefEqProofs only [StableHlo.TRef.toBuf, StableHlo.TRef.ofBuf, cast_cast, cast_eq]
  try rfl

theorem end_v17 : endR V main_v17 = clearR (endR V main_v15) := by
  obtain ⟨X, hX⟩ := cutR 45 V
  simp only [endR, hX]
  after_reads_simp
  try simp -implicitDefEqProofs only [StableHlo.TRef.toBuf, StableHlo.TRef.ofBuf, cast_cast, cast_eq]
  try rfl

theorem end_v18 : endR V main_v18 = sumR (endR V main_v17) := by
  obtain ⟨X, hX⟩ := cutR 49 V
  simp only [endR, hX]
  after_reads_simp
  try simp -implicitDefEqProofs only [StableHlo.TRef.toBuf, StableHlo.TRef.ofBuf, cast_cast, cast_eq]
  try rfl

theorem end_v27 : endR V main_v27 = histR (endR V main_v18) := by
  obtain ⟨X, hX⟩ := cutR 52 V
  simp only [endR, hX]
  after_reads_simp
  try simp -implicitDefEqProofs only [StableHlo.TRef.toBuf, StableHlo.TRef.ofBuf, cast_cast, cast_eq]
  try rfl

theorem end_v30 : endR V main_v30 = rankR (endR V main_v27) := by
  obtain ⟨X, hX⟩ := cutR 65 V
  simp only [endR, hX]
  after_reads_simp
  try simp -implicitDefEqProofs only [StableHlo.TRef.toBuf, StableHlo.TRef.ofBuf, cast_cast, cast_eq]
  try rfl

theorem end_v31 : endR V main_v31 = takeR (endR V main_v14) (endR V main_v30) := by
  obtain ⟨X, hX⟩ := cutR 71 V
  simp only [endR, hX]
  after_reads_simp
  try simp -implicitDefEqProofs only [StableHlo.TRef.toBuf, StableHlo.TRef.ofBuf, cast_cast, cast_eq]
  try rfl

theorem end_v32 : endR V main_v32 = iotaInDim S89927 32 0 := by
  obtain ⟨X, hX⟩ := cutR 93 V
  simp only [endR, hX]
  after_reads_simp
  try simp -implicitDefEqProofs only [StableHlo.TRef.toBuf, StableHlo.TRef.ofBuf, cast_cast, cast_eq]
  try rfl

theorem end_v33 : endR V main_v33 = takeR (endR V main_v13) (endR V main_v31) := by
  obtain ⟨X, hX⟩ := cutR 94 V
  simp only [endR, hX]
  after_reads_simp
  try simp -implicitDefEqProofs only [StableHlo.TRef.toBuf, StableHlo.TRef.ofBuf, cast_cast, cast_eq]
  try rfl

theorem end_v34 : endR V main_v34 = subi (endR V main_v32) (endR V main_v33) := by
  obtain ⟨X, hX⟩ := cutR 116 V
  simp only [endR, hX]
  after_reads_simp
  try simp -implicitDefEqProofs only [StableHlo.TRef.toBuf, StableHlo.TRef.ofBuf, cast_cast, cast_eq]
  try rfl

theorem end_v35 : endR V main_v35 = blankR := by
  obtain ⟨X, hX⟩ := cutR 117 V
  simp only [endR, hX]
  after_reads_simp
  try simp -implicitDefEqProofs only [StableHlo.TRef.toBuf, StableHlo.TRef.ofBuf, cast_cast, cast_eq]
  try rfl

theorem end_v46 : endR V main_v46 = colR (wrapR 16384#32 (endR V main_v31)) := by
  obtain ⟨X, hX⟩ := cutR 119 V
  simp only [endR, hX]
  after_reads_simp
  try simp -implicitDefEqProofs only [StableHlo.TRef.toBuf, StableHlo.TRef.ofBuf, cast_cast, cast_eq]
  try rfl

theorem end_v47 : endR V main_v47 = colR (wrapR 10#32 (endR V main_v34)) := by
  obtain ⟨X, hX⟩ := cutR 126 V
  simp only [endR, hX]
  after_reads_simp
  try simp -implicitDefEqProofs only [StableHlo.TRef.toBuf, StableHlo.TRef.ofBuf, cast_cast, cast_eq]
  try rfl

theorem end_v48 : endR V main_v48 = besideR (endR V main_v46) (endR V main_v47) := by
  obtain ⟨X, hX⟩ := cutR 135 V
  simp only [endR, hX]
  after_reads_simp
  try simp -implicitDefEqProofs only [StableHlo.TRef.toBuf, StableHlo.TRef.ofBuf, cast_cast, cast_eq]
  try rfl

theorem end_v49 : endR V main_v49 = padR (endR V main_v35) (endR V main_v48) (endR V main_v9) := by
  obtain ⟨X, hX⟩ := cutR 136 V
  simp only [endR, hX]
  after_reads_simp
  try simp -implicitDefEqProofs only [StableHlo.TRef.toBuf, StableHlo.TRef.ofBuf, cast_cast, cast_eq]
  try rfl

theorem end_v54 : endR V main_v54 = scoreR (endR V main_v49) (endR V main_arg7) (endR V main_arg8) := by
  obtain ⟨X, hX⟩ := cutR 137 V
  simp only [endR, hX]
  after_reads_simp
  try simp -implicitDefEqProofs only [StableHlo.TRef.toBuf, StableHlo.TRef.ofBuf, cast_cast, cast_eq]
  try rfl

theorem end_v65 : endR V main_v65 = softR (endR V main_v54) := by
  obtain ⟨X, hX⟩ := cutR 142 V
  simp only [endR, hX]
  after_reads_simp
  try simp -implicitDefEqProofs only [StableHlo.TRef.toBuf, StableHlo.TRef.ofBuf, cast_cast, cast_eq]
  try rfl

theorem end_v69 : endR V main_v69 = mixR (endR V main_v65) (endR V main_arg9) (endR V main_arg10) := by
  obtain ⟨X, hX⟩ := cutR 156 V
  simp only [endR, hX]
  after_reads_simp
  try simp -implicitDefEqProofs only [StableHlo.TRef.toBuf, StableHlo.TRef.ofBuf, cast_cast, cast_eq]
  try rfl

theorem end_v80 : endR V main_v80 = softR (endR V main_v69) := by
  obtain ⟨X, hX⟩ := cutR 160 V
  simp only [endR, hX]
  after_reads_simp
  try simp -implicitDefEqProofs only [StableHlo.TRef.toBuf, StableHlo.TRef.ofBuf, cast_cast, cast_eq]
  try rfl

theorem end_arg0 : endR V main_arg0 = V (Proc.devRef (τ := τ) .tc main_arg0) := by
  unfold endR
  after_reads_simp

theorem end_arg1 : endR V main_arg1 = V (Proc.devRef (τ := τ) .tc main_arg1) := by
  unfold endR
  after_reads_simp

theorem end_arg2 : endR V main_arg2 = V (Proc.devRef (τ := τ) .tc main_arg2) := by
  unfold endR
  after_reads_simp

theorem end_arg3 : endR V main_arg3 = V (Proc.devRef (τ := τ) .tc main_arg3) := by
  unfold endR
  after_reads_simp

theorem end_arg4 : endR V main_arg4 = V (Proc.devRef (τ := τ) .tc main_arg4) := by
  unfold endR
  after_reads_simp

theorem end_arg5 : endR V main_arg5 = V (Proc.devRef (τ := τ) .tc main_arg5) := by
  unfold endR
  after_reads_simp

theorem end_arg6 : endR V main_arg6 = V (Proc.devRef (τ := τ) .tc main_arg6) := by
  unfold endR
  after_reads_simp

theorem end_arg7 : endR V main_arg7 = V (Proc.devRef (τ := τ) .tc main_arg7) := by
  unfold endR
  after_reads_simp

theorem end_arg8 : endR V main_arg8 = V (Proc.devRef (τ := τ) .tc main_arg8) := by
  unfold endR
  after_reads_simp

theorem end_arg9 : endR V main_arg9 = V (Proc.devRef (τ := τ) .tc main_arg9) := by
  unfold endR
  after_reads_simp

theorem end_arg10 : endR V main_arg10 = V (Proc.devRef (τ := τ) .tc main_arg10) := by
  unfold endR
  after_reads_simp

/-- The end's result is `resR` of the arguments. -/
theorem end_res : endR V main_v80 = resR (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) := by
  rw [end_v80, end_v69, end_v65, end_v54, end_v49, end_v48, end_v47, end_v46, end_v35, end_v34, end_v33, end_v32, end_v31, end_v30, end_v27, end_v18, end_v17, end_v15, end_call3_v1, end_call3_v0, end_v14, end_v13, end_v12, end_v10, end_v9, end_v0, end_arg0, end_arg1, end_arg2, end_arg3, end_arg4, end_arg5, end_arg6, end_arg7, end_arg8, end_arg9, end_arg10]
  rfl

/-- The run's end: the result is `resR` of the arguments, and the arguments are as launched. -/
theorem run_ref (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v80) = resR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine θ_run_mono (StableHlo.run_hlo _ _ refOps.2 (by decide) (by decide) (by unfold refOps; simp)
      (by unfold refOps; intro _ h; (repeat (cases h with | head => rfl | tail _ h => ?_)); exact nomatch h) _ _) ?_
  intro r hr c
  refine ⟨(hr c main_v80).trans (end_res _), (hr c main_arg0).trans (end_arg0 _), (hr c main_arg1).trans (end_arg1 _), (hr c main_arg2).trans (end_arg2 _), (hr c main_arg3).trans (end_arg3 _), (hr c main_arg4).trans (end_arg4 _), (hr c main_arg5).trans (end_arg5 _), (hr c main_arg6).trans (end_arg6 _), (hr c main_arg7).trans (end_arg7 _), (hr c main_arg8).trans (end_arg8 _), (hr c main_arg9).trans (end_arg9 _), (hr c main_arg10).trans (end_arg10 _)⟩

end Cert.ReferenceIdeal
end
-- ==== Proof.RefRead.lean ====
/- The index words of the reference, read one at a time under the precondition: each row's box and its place in that box, and where the
   padded array holds which row. -/
module

public import proofs.«01_k».proof.Proof.RefTerm
public import proofs.«01_k».proof.Proof.Boxes
public import Idealize.ShloMosaic.Lib.Routing.OpsOne
public import Idealize.ShloMosaic.Lib.Routing.OpsSet
public import Idealize.ShloMosaic.Lib.Routing.OpsPair
public import Idealize.ShloMosaic.PureOps.Ideal.Laws

@[expose] public section

set_option maxRecDepth 16384

noncomputable section

namespace Cert.ReferenceIdeal

open Idealize.ShloMosaic Idealize.ShloMosaic.ValueIdx Idealize.ShloMosaic.WordCmp Idealize.ShloMosaic.Routing
open Cert.Proof.Boxes
open Facts₀ Facts

variable [Cert.ReferenceIdeal.Facts]

/-! ## Counting the boxes at or before a row -/

/-- The numbers below `N` that `f` sends to `R`, to `R + 1`, …, taken together. -/
theorem count_lt_succ (f : Nat → Nat) (N R : Nat) :
    Nat.count (fun b => f b < R + 1) N = Nat.count (fun b => f b < R) N + Nat.count (fun b => f b = R) N := by
  induction N with
  | zero => simp
  | succ N ih =>
    rw [Nat.count_succ, Nat.count_succ, Nat.count_succ, ih]
    split <;> split <;> split <;> omega

theorem sum_count (f : Nat → Nat) (N R : Nat) :
    ((List.range R).map fun r => Nat.count (fun b => f b = r) N).sum = Nat.count (fun b => f b < R) N := by
  induction R with
  | zero => rw [Nat.count_of_forall_not (fun _ _ h => absurd h (Nat.not_lt_zero _))]; rfl
  | succ R ih => rw [List.range_succ, List.map_append, List.sum_append, ih, count_lt_succ, List.map_singleton, List.sum_singleton]

variable {pr : IVec S89927 32} {bl : IVec S16384 32}

/-- The boxes that start at or before a row of box `b` are the first `b + 1`. -/
theorem count_offs {b r : Nat} (hb : offs bl b ≤ r) (hb' : r < offs bl (b + 1)) (N : Nat) :
    Nat.count (fun a => offs bl a < r + 1) N = min N (b + 1) := by
  induction N with
  | zero => rw [Nat.count_zero]; omega
  | succ N ih =>
    rw [Nat.count_succ, ih]
    by_cases h : N ≤ b
    · rw [if_pos (by have := offs_mono bl h; omega)]; omega
    · rw [if_neg (by have := offs_mono bl (show b + 1 ≤ N by omega); omega)]; omega

/-- A row below the end of the first `n` boxes lies in one of them. -/
theorem exists_box (n r : Nat) (h : r < offs bl n) : ∃ b, b < n ∧ offs bl b ≤ r ∧ r < offs bl (b + 1) := by
  induction n with
  | zero => exact absurd h (Nat.not_lt_zero _)
  | succ n ih =>
    by_cases h' : r < offs bl n
    · obtain ⟨b, hb, e⟩ := ih h'
      exact ⟨b, by omega, e⟩
    · exact ⟨n, by omega, by omega, h⟩

/-! ## The words of the boxes -/

theorem sumR_word (t : IVec S16384 32) (f : Nat → Nat) (hf : ∀ i : Fin 16384, t (ix1 i) = BitVec.ofNat 32 (f i.val)) (j : Fin 16384) :
    sumR t (ix1 j) = BitVec.ofNat 32 ((List.range (j.val + 1)).map f).sum :=
  cumsum1 (by decide) t f hf _ rfl _ _ j

theorem initR_at (t : IVec S16384 32) (j : Fin 16383) : initR t (ix1 j) = t (ix1 ⟨j.val, by omega⟩) :=
  (slice1 0 t _ j (by omega)).trans (congrArg (fun k => t (ix1 k)) (Fin.ext (Nat.zero_add _)))

theorem frontR_succ (a : IVec S1 32) (t : IVec S16383 32) (j : Fin 16384) (h : j.val ≠ 0) :
    frontR a t (ix1 j) = t (ix1 ⟨j.val - 1, by omega⟩) := by
  have hj := j.isLt
  have e : (⟨j.val - 1, by omega⟩ : Fin 16383).val + 1 = j.val := by show j.val - 1 + 1 = j.val; omega
  exact concatenate_pair_apply_right (0 : Fin (shape1 16384).rank) a t _ (ix1 j) rfl rfl (ix1 ⟨j.val - 1, by omega⟩)
    (fun b hb => by
      match b with
      | ⟨0, _⟩ => exact absurd rfl hb) e

theorem offR_word (j : Fin 16384) : offR bl (ix1 j) = BitVec.ofNat 32 (offs bl j.val) :=
  concat_word (by decide) zeroR rfl (initR (sumR bl)) (fun j => by rw [initR_at]; exact sumR_word bl (len bl) (len_word bl) _)
    concatenates_S1_S16383_S16384_d0 j

theorem turnR_word (j : Fin 16384) : turnR bl (ix1 j) = BitVec.ofNat 32 (if j.val = 0 then 0 else len bl (j.val - 1)) := by
  have e := scatter_one scatter_S16384_S1_S__n_0_0_0 rfl rfl (frontR (lastR bl) (initR bl)) zeroR (constantI S_ 32 0#32) ⟨0, by decide⟩
    (by decide) rfl j
  refine e.trans ?_
  by_cases h : j.val = 0
  · rw [if_pos h, if_pos (Fin.ext h)]; rfl
  · rw [if_neg h, if_neg (fun h' => h (congrArg Fin.val h')), frontR_succ _ _ _ h, initR_at]
    exact len_word bl _

/-- The start of box `b`. -/
theorem startR_word (b : Fin 16384) : sumR (turnR bl) (ix1 b) = BitVec.ofNat 32 (offs bl b.val) := by
  rw [sumR_word (turnR bl) (fun j => if j = 0 then 0 else len bl (j - 1)) turnR_word, List.range_succ_eq_map, List.map_cons, List.sum_cons, List.map_map]
  unfold offs
  rw [if_pos rfl, Nat.zero_add]
  rfl

theorem placeR_at (s : IVec S16384 32) (b : Fin 16384) (h : (s (ix1 b)).toNat < 2 ^ 31) : placeR s (ix2 b 0) = s (ix1 b) :=
  (bcCol bcast_S16384_S16384x1_0 _ b).trans (wrap_of_lt _ _ h)

/-- Word `b` lands at the row it names. -/
theorem lands_hist (idx : IVec S16384x1 32) (b : Fin 16384) (r : Fin 89927) :
    scatter_S89927_S16384x1_S16384_n_0_0_1.resultIdx? (ix1 b) idx = some (ix1 r) ↔ (idx (ix2 b 0)).toInt = (r.val : Int) := by
  have hs : scatter_S89927_S16384x1_S16384_n_0_0_1.start (ix1 b) idx 0 = (idx (ix2 b 0)).toInt := by
    unfold ScatterDims.start
    rw [dif_pos (by decide)]
    refine congrArg (fun t => (idx t).toInt) (funext fun a => Fin.ext ?_)
    match a with
    | ⟨0, _⟩ => rfl
    | ⟨1, _⟩ => rfl
  have hw : scatter_S89927_S16384x1_S16384_n_0_0_1.window (ix1 b) 0 = 0 := by
    unfold ScatterDims.window
    rw [dif_neg (by decide)]
  rw [resultIdx?_ix1, hs, hw]
  omega

/-- How many boxes start at row `r`. -/
theorem histR_word (s : IVec S16384 32) (f : Nat → Nat) (hf : ∀ b : Fin 16384, s (ix1 b) = BitVec.ofNat 32 (f b.val))
    (hf' : ∀ b : Fin 16384, f b.val < 2 ^ 31) (r : Fin 89927) : histR s (ix1 r) = BitVec.ofNat 32 (Nat.count (fun b => f b = r.val) 16384) := by
  have hp : ∀ b : Fin 16384, (placeR s (ix2 b 0)).toInt = (f b.val : Int) := fun b => by
    have := hf' b
    rw [placeR_at s b (by rw [hf, toNat_ofNat_of_lt (w := 32) (by omega)]; omega), hf, toInt_ofNat_of_lt (w := 32) (by omega)]
  unfold histR Host.scatter
  refine (foldl_count _ (ix1 r) (fun n : Fin (shape1 16384).numel => decide (f n.val = r.val)) (fun x n => ?_) _ _ 0 rfl).trans ?_
  · have hl := lands_hist (placeR s) (n.cast (numel1 16384)) r
    rw [hp] at hl
    have hn : S16384.rowMajor.symm n = ix1 (n.cast (numel1 16384)) := symm1 n
    rw [hn]
    generalize scatter_S89927_S16384x1_S16384_n_0_0_1.resultIdx? (ix1 (n.cast (numel1 16384))) (placeR s) = o at hl ⊢
    cases o with
    | none =>
      dsimp only
      rw [if_neg fun q => by have := hl.2 (congrArg Nat.cast (of_decide_eq_true q)); cases this]
    | some y =>
      dsimp only
      by_cases h : f n.val = r.val
      · rw [Option.some.inj (hl.2 (congrArg Nat.cast h)), if_pos rfl, if_pos (decide_eq_true h)]
        rfl
      · rw [if_neg fun q : ix1 r = y => h (by exact_mod_cast hl.1 (congrArg some q.symm)), if_neg fun q => h (of_decide_eq_true q)]
  · rw [Nat.zero_add, countP_finRange _ fun n => f n = r.val, numel1]

theorem rankR_word (t : IVec S89927 32) (f : Nat → Nat) (hf : ∀ r : Fin 89927, t (ix1 r) = BitVec.ofNat 32 (f r.val)) (r : Fin 89927) (k : Nat)
    (hk : ((List.range (r.val + 1)).map f).sum = k + 1) : rankR t (ix1 r) = BitVec.ofNat 32 k := by
  have e := cumsum1 (N := 89927) (Nm1 := 89926) (by decide) t f hf (broadcastInDim S_ ![] bcast_S_S_ (constantI S_ 32 0#32)) rfl
    reduceWindows_S89927_S89927_w89927s1p89926_0 h_S_ r
  rw [hk] at e
  show IntOp.subi _ _ = _
  rw [e]
  show BitVec.ofNat 32 (k + 1) - 1#32 = _
  rw [BitVec.ofNat_add]
  exact BitVec.add_sub_cancel _ _

/-! ## A vector read at places -/

theorem wrapR_at (n : BitVec 32) (i : IVec S89927 32) (r : Fin 89927) (h : (i (ix1 r)).toNat < 2 ^ 31) : wrapR n i (ix1 r) = i (ix1 r) :=
  wrap_of_lt _ _ h

theorem colR_at (i : IVec S89927 32) (r : Fin 89927) : colR i (ix2 r 0) = i (ix1 r) := bcCol bcast_S89927_S89927x1_0 i r

variable (k : Fin 89927 → Nat)

/-- Places that are numbers at most `n` lie in `[0, n]`. -/
theorem insideR_one (n : Nat) (hn : n < 2 ^ 31) (i : IVec S89927x1 32) (hi : ∀ r, i (ix2 r 0) = BitVec.ofNat 32 (k r)) (hk : ∀ r, k r ≤ n)
    (j : S89927.Idx) : insideR (BitVec.ofNat 32 n) i j = 1#1 := by
  refine Host.reduce_andi_one _ _ _ _ _ rfl fun y => ?_
  obtain ⟨r, rfl⟩ : ∃ r : Fin 89927, y = ix2 r 0 := ⟨y 0, (eq_ix2 y).trans (congrArg (ix2 (y 0)) (Subsingleton.elim (α := Fin 1) _ _))⟩
  have := hk r
  show IntOp.andi (IntOp.cmpi .sge (i (ix2 r 0)) 0#32) (IntOp.cmpi .sle (i (ix2 r 0)) (BitVec.ofNat 32 n)) = 1#1
  rw [andi_one, hi, cmpi_sge_eq, cmpi_sle_eq, ofBool_decide_eq_one_iff, ofBool_decide_eq_one_iff, toInt_ofNat_of_lt (w := 32) (a := k r) (by omega),
    toInt_ofNat_of_lt (w := 32) (a := n) (by omega)]
  exact ⟨by show (0 : Int) ≤ _; omega, by omega⟩

theorem wrap_col (n : BitVec 32) (i : IVec S89927 32) (hi : ∀ r, i (ix1 r) = BitVec.ofNat 32 (k r)) (hk : ∀ r, k r < 2 ^ 31) (r : Fin 89927) :
    colR (wrapR n i) (ix2 r 0) = BitVec.ofNat 32 (k r) := by
  have := hk r
  rw [colR_at, wrapR_at _ _ _ (by rw [hi, toNat_ofNat_of_lt (w := 32) (by omega)]; omega), hi]

theorem takeR_at (x : IVec S16384 32) (i : IVec S89927 32) (hi : ∀ r, i (ix1 r) = BitVec.ofNat 32 (k r)) (hk : ∀ r, k r < 16384)
    (r : Fin 89927) : takeR x i (ix1 r) = x (ix1 ⟨k r, hk r⟩) := by
  have hc := wrap_col k 16384#32 i hi fun r => by have := hk r; omega
  have hb : insideR 16383#32 (colR (wrapR 16384#32 i)) (ix1 r) = 1#1 :=
    insideR_one k 16383 (by decide) _ hc (fun r => by have := hk r; omega) _
  unfold takeR select
  rw [hb]
  exact gather_take1 gather_S16384_S89927x1_S89927_n_0_n_n_0_1_1 rfl rfl rfl rfl x _ r ⟨k r, hk r⟩ (hc r) (by decide)

theorem embR_at (x : FVec Ideal S9x64 .f32) (i : IVec S89927 32) (hi : ∀ r, i (ix1 r) = BitVec.ofNat 32 (k r)) (hk : ∀ r, k r < 9)
    (r : Fin 89927) (d : Fin 64) : embR x i (ix2 r d) = x (ix2 ⟨k r, hk r⟩ d) := by
  have hc := wrap_col k 9#32 i hi fun r => by have := hk r; omega
  have hb : broadcastInDim S89927x64 ![0] bcast_S89927_S89927x64_0 (insideR 8#32 (colR (wrapR 9#32 i))) (ix2 r d) = 1#1 :=
    insideR_one k 8 (by decide) _ hc (fun r => by have := hk r; omega) _
  unfold embR select
  rw [hb]
  exact gather_row gather_S9x64_S89927x1_S89927x64_1_0_n_n_0_1_164 rfl rfl rfl rfl rfl x _ r d ⟨k r, hk r⟩ (hc r) (by decide)

/-! ## Each row's box and place -/

/-- The box of row `r`. -/
def boxOf (bl : IVec S16384 32) (r : Nat) : Nat := Nat.count (fun a => offs bl a < r + 1) 16384 - 1

theorem boxOf_eq {b r : Nat} (h : b < 16384) (hb : offs bl b ≤ r) (hb' : r < offs bl (b + 1)) : boxOf bl r = b := by
  unfold boxOf
  rw [count_offs hb hb']
  omega

theorem boxOf_spec (g : Good pr bl) (r : Fin 89927) :
    boxOf bl r.val < 16384 ∧ offs bl (boxOf bl r.val) ≤ r.val ∧ r.val < offs bl (boxOf bl r.val + 1) := by
  obtain ⟨b, h, hb, hb'⟩ := exists_box (bl := bl) 16384 r.val (by rw [g.sum]; exact r.isLt)
  rw [boxOf_eq h hb hb']
  exact ⟨h, hb, hb'⟩

theorem boxR_word (g : Good pr bl) (r : Fin 89927) : boxR bl (ix1 r) = BitVec.ofNat 32 (boxOf bl r.val) := by
  have hk : ∀ r : Fin 89927, boxOf bl r.val < 16384 := fun r => (boxOf_spec g r).1
  have hr : ∀ r : Fin 89927, rankR (histR (sumR (turnR bl))) (ix1 r) = BitVec.ofNat 32 (boxOf bl r.val) := fun r => by
    obtain ⟨h, hb, hb'⟩ := boxOf_spec g r
    refine rankR_word _ (fun r => Nat.count (fun b => offs bl b = r) 16384) (histR_word _ (offs bl) startR_word fun b => ?_) r _ ?_
    · have := g.offs_le (n := b.val) (by omega)
      omega
    · rw [sum_count, count_offs hb hb']
      omega
  exact takeR_at (fun r => boxOf bl r.val) _ _ hr hk r

theorem slotR_word (g : Good pr bl) (r : Fin 89927) :
    subi (iotaInDim S89927 32 0) (takeR (offR bl) (boxR bl)) (ix1 r) = BitVec.ofNat 32 (r.val - offs bl (boxOf bl r.val)) := by
  obtain ⟨h, hb, hb'⟩ := boxOf_spec g r
  show IntOp.subi (BitVec.ofNat 32 r.val) (takeR (offR bl) (boxR bl) (ix1 r)) = _
  rw [takeR_at (fun r => boxOf bl r.val) _ _ (boxR_word g) (fun r => (boxOf_spec g r).1), offR_word]
  show BitVec.ofNat 32 r.val - BitVec.ofNat 32 (offs bl (boxOf bl r.val)) = _
  exact (BitVec.ofNat_sub_ofNat_of_le _ _ (by have := r.isLt; omega) hb)

theorem slot_lt (g : Good pr bl) (r : Fin 89927) : r.val - offs bl (boxOf bl r.val) < 10 := by
  obtain ⟨h, hb, hb'⟩ := boxOf_spec g r
  have := g.len_le (boxOf bl r.val)
  rw [offs_succ] at hb'
  omega

theorem besideR_left (a b : IVec S89927x1 32) (r : Fin 89927) : besideR a b (ix2 r 0) = a (ix2 r 0) :=
  concatenate_pair_apply_left (1 : Fin S89927x2.rank) a b _ (ix2 r 0) rfl (ix2 r 0) fun y => by
    match y with
    | ⟨0, _⟩ => rfl
    | ⟨1, _⟩ => rfl

theorem besideR_right (a b : IVec S89927x1 32) (r : Fin 89927) : besideR a b (ix2 r 1) = b (ix2 r 0) :=
  concatenate_pair_apply_right (1 : Fin S89927x2.rank) a b _ (ix2 r 1) rfl rfl (ix2 r 0) (fun y hy => by
    match y with
    | ⟨0, _⟩ => rfl
    | ⟨1, _⟩ => exact absurd rfl hy) rfl

/-- The pair of row `r`: its box and its place. -/
theorem pairR_word (g : Good pr bl) (r : Fin 89927) :
    pairR (takeR (offR bl) (boxR bl)) (boxR bl) (ix2 r 0) = BitVec.ofNat 32 (boxOf bl r.val)
      ∧ pairR (takeR (offR bl) (boxR bl)) (boxR bl) (ix2 r 1) = BitVec.ofNat 32 (r.val - offs bl (boxOf bl r.val)) := by
  unfold pairR
  rw [besideR_left, besideR_right, wrap_col (fun r => boxOf bl r.val) _ _ (boxR_word g) fun r => by have := (boxOf_spec g r).1; omega,
    wrap_col (fun r => r.val - offs bl (boxOf bl r.val)) _ _ (slotR_word g) fun r => by have := slot_lt g r; omega]
  exact ⟨rfl, rfl⟩

/-! ## The padded array -/

/-- Entry `(r, e)` of the rows lands at box, place and column when the row's two words are the box and the place. -/
theorem lands_pad (idx : IVec S89927x2 32) (r : Fin 89927) (e : Fin 64) (b : Fin 16384) (s : Fin 10) (d : Fin 64) :
    scatter_S16384x10x64_S89927x2_S89927x64_1_01_01_1.resultIdx? (ix2 r e) idx = some (ix3 b s d)
      ↔ (idx (ix2 r 0)).toInt = (b.val : Int) ∧ (idx (ix2 r 1)).toInt = (s.val : Int) ∧ e = d := by
  have h0 : scatter_S16384x10x64_S89927x2_S89927x64_1_01_01_1.start (ix2 r e) idx 0 = (idx (ix2 r 0)).toInt := by
    unfold ScatterDims.start
    rw [dif_pos (by decide)]
    refine congrArg (fun t => (idx t).toInt) (funext fun a => Fin.ext ?_)
    match a with
    | ⟨0, _⟩ => rfl
    | ⟨1, _⟩ => rfl
  have h1 : scatter_S16384x10x64_S89927x2_S89927x64_1_01_01_1.start (ix2 r e) idx 1 = (idx (ix2 r 1)).toInt := by
    unfold ScatterDims.start
    rw [dif_pos (by decide)]
    refine congrArg (fun t => (idx t).toInt) (funext fun a => Fin.ext ?_)
    match a with
    | ⟨0, _⟩ => rfl
    | ⟨1, _⟩ => rfl
  have h2 : scatter_S16384x10x64_S89927x2_S89927x64_1_01_01_1.start (ix2 r e) idx 2 = 0 := by
    unfold ScatterDims.start
    rw [dif_neg (by decide)]
  have w0 : scatter_S16384x10x64_S89927x2_S89927x64_1_01_01_1.window (ix2 r e) 0 = 0 := by
    unfold ScatterDims.window
    rw [dif_neg (by decide)]
  have w1 : scatter_S16384x10x64_S89927x2_S89927x64_1_01_01_1.window (ix2 r e) 1 = 0 := by
    unfold ScatterDims.window
    rw [dif_neg (by decide)]
  have w2 : scatter_S16384x10x64_S89927x2_S89927x64_1_01_01_1.window (ix2 r e) 2 = e.val := by
    unfold ScatterDims.window
    rw [dif_pos (by decide)]
    rfl
  rw [resultIdx?_eq_some]
  constructor
  · intro h
    have a0 := h 0
    have a1 := h 1
    have a2 := h 2
    rw [h0, w0] at a0
    rw [h1, w1] at a1
    rw [h2, w2] at a2
    have b0 : (idx (ix2 r 0)).toInt + ((0 : Nat) : Int) = (b.val : Int) := a0
    have b1 : (idx (ix2 r 1)).toInt + ((0 : Nat) : Int) = (s.val : Int) := a1
    have b2 : 0 + (e.val : Int) = (d.val : Int) := a2
    exact ⟨by omega, by omega, Fin.ext (by omega)⟩
  · rintro ⟨a0, a1, rfl⟩ a
    match a with
    | ⟨0, _⟩ =>
      refine (congrArg₂ (fun p (q : Nat) => p + (q : Int)) h0 w0).trans ?_
      show (idx (ix2 r 0)).toInt + ((0 : Nat) : Int) = (b.val : Int)
      omega
    | ⟨1, _⟩ =>
      refine (congrArg₂ (fun p (q : Nat) => p + (q : Int)) h1 w1).trans ?_
      show (idx (ix2 r 1)).toInt + ((0 : Nat) : Int) = (s.val : Int)
      omega
    | ⟨2, _⟩ =>
      refine (congrArg₂ (fun p (q : Nat) => p + (q : Int)) h2 w2).trans ?_
      show 0 + (e.val : Int) = (e.val : Int)
      omega

/-- Place `s` of box `b` holds the box's row of that number, and zero past its last row. -/
theorem padR_at (g : Good pr bl) (h : FVec Ideal S89927x64 .f32) (b : Fin 16384) (s : Fin 10) (d : Fin 64) :
    padR blankR (pairR (takeR (offR bl) (boxR bl)) (boxR bl)) h (ix3 b s d)
      = if s.val < len bl b.val then h (ix2 (Fin.ofNat 89927 (offs bl b.val + s.val)) d) else (0 : EReal) := by
  have hl : ∀ (r : Fin 89927) (e : Fin 64), scatter_S16384x10x64_S89927x2_S89927x64_1_01_01_1.resultIdx? (ix2 r e)
      (pairR (takeR (offR bl) (boxR bl)) (boxR bl)) = some (ix3 b s d) ↔ r.val = offs bl b.val + s.val ∧ s.val < len bl b.val ∧ e = d :=
    fun r e => by
      obtain ⟨hc, hb, hb'⟩ := boxOf_spec g r
      have hs := slot_lt g r
      rw [lands_pad, (pairR_word g r).1, (pairR_word g r).2, toInt_ofNat_of_lt (w := 32) (by omega), toInt_ofNat_of_lt (w := 32) (by omega)]
      constructor
      · rintro ⟨e0, e1, e2⟩
        have e0' : boxOf bl r.val = b.val := by omega
        rw [e0'] at hb hb' e1
        rw [offs_succ] at hb'
        exact ⟨by omega, by omega, e2⟩
      · rintro ⟨e0, e1, e2⟩
        have e3 := boxOf_eq (bl := bl) (r := r.val) b.isLt (by omega) (by rw [offs_succ]; omega)
        rw [e3]
        exact ⟨rfl, by omega, e2⟩
  by_cases hs : s.val < len bl b.val
  · have hlt := g.offs_add_lt b.isLt hs
    have hv : (Fin.ofNat 89927 (offs bl b.val + s.val)).val = offs bl b.val + s.val := Nat.mod_eq_of_lt hlt
    rw [if_pos hs]
    refine scatter_set_hit _ _ _ _ _ _ (fun y hy => ?_) (ix2 (Fin.ofNat 89927 (offs bl b.val + s.val)) d) ((hl _ _).2 ⟨hv, hs, rfl⟩)
    rw [eq_ix2 y] at hy ⊢
    obtain ⟨e0, _, e2⟩ := (hl _ _).1 hy
    rw [e2]
    exact congrArg (fun t => h (ix2 t d)) (Fin.ext (e0.trans hv.symm))
  · rw [if_neg hs]
    refine (scatter_set_miss _ _ _ _ _ fun y hy => hs ?_).trans ?_
    · rw [eq_ix2 y] at hy
      exact ((hl _ _).1 hy).2.1
    · exact Idealize.ShloMosaic.Ideal.ofBits_zero_f32

end Cert.ReferenceIdeal
end
-- ==== Proof.Spec.lean ====
/- What both programs compute, as formulas over the extended reals: the hidden rows, the scores of a box as a sum over its rows, and the
   two softmaxes; with the facts about sums and numbers the two sides share. -/
module

public import proofs.«01_k».proof.Proof.Boxes
public import Idealize.ShloMosaic.Lib.Pointwise

@[expose] public section

noncomputable section

namespace Cert.Proof.Spec

open Idealize.ShloMosaic
open Cert.Proof.Boxes (len offs cls Good)

/-- A vector of `n` numbers. -/
abbrev Arr1 (n : Nat) := FVec Ideal ⟨1, ![n]⟩ .f32
/-- A matrix of `n` by `k` numbers. -/
abbrev Arr2 (n k : Nat) := FVec Ideal ⟨2, ![n, k]⟩ .f32

/-- The hidden entry of row `r` and column `d`. -/
def hid (x : Arr2 89927 64) (pr : IVec ⟨1, ![89927]⟩ 32) (cf : Arr1 89927) (ws : Arr2 64 64) (bs : Arr1 64) (pe : Arr2 9 64)
    (r : Fin 89927) (d : Fin 64) : EReal :=
  max ((∑ e : Fin 64, (x (ix2 r e) + pe (ix2 (Fin.ofNat 9 (cls pr r.val)) e)) * ws (ix2 e d)) + bs (ix1 d)) 0 * cf (ix1 r)

/-- The score of class `c` of a box whose rows start at `o` and are `n`: each row's hidden entries against the weights of its place. -/
def score (h : Fin 89927 → Fin 64 → EReal) (w : Arr2 640 9) (o n : Nat) (c : Fin 9) : EReal :=
  ∑ s : Fin 10, if s.val < n then ∑ d : Fin 64, h (Fin.ofNat 89927 (o + s.val)) d * w (ix2 ⟨s.val * 64 + d.val, by omega⟩ c) else 0

/-- The softmax of nine numbers. -/
def soft (v : Fin 9 → EReal) (c : Fin 9) : EReal :=
  Ideal.div (Ideal.exp (v c - Finset.univ.fold max (Ideal.ofBits .f32 0xFF800000#32) v))
    (∑ k : Fin 9, Ideal.exp (v k - Finset.univ.fold max (Ideal.ofBits .f32 0xFF800000#32) v))

/-- From the scores of a box to its result. -/
def tail (l : Fin 9 → EReal) (bb : Arr1 9) (w2 : Arr2 9 9) (b2 : Arr1 9) (c : Fin 9) : EReal :=
  soft (fun c => (∑ k : Fin 9, soft (fun c => l c + bb (ix1 c)) k * w2 (ix2 k c)) + b2 (ix1 c)) c

/-- The result of box `b` and class `c`. -/
def spec (x : Arr2 89927 64) (pr : IVec ⟨1, ![89927]⟩ 32) (bl : IVec ⟨1, ![16384]⟩ 32) (cf : Arr1 89927) (ws : Arr2 64 64) (bs : Arr1 64)
    (pe : Arr2 9 64) (wb : Arr2 640 9) (bb : Arr1 9) (w2 : Arr2 9 9) (b2 : Arr1 9) (b : Fin 16384) (c : Fin 9) : EReal :=
  tail (score (hid x pr cf ws bs pe) wb (offs bl b.val) (len bl b.val)) bb w2 b2 c

/-- A natural number as an extended real. -/
def num (n : Nat) : EReal := ((n : ℝ) : EReal)

theorem num_le (a b : Nat) : num a ≤ num b ↔ a ≤ b := by
  unfold num
  rw [EReal.coe_le_coe_iff, Nat.cast_le]

theorem num_lt (a b : Nat) : num a < num b ↔ a < b := by
  unfold num
  rw [EReal.coe_lt_coe_iff, Nat.cast_lt]

theorem num_inj (a b : Nat) : num a = num b ↔ a = b := by
  unfold num
  rw [EReal.coe_eq_coe_iff, Nat.cast_inj]

theorem num_sub {a b : Nat} (h : b ≤ a) : num a - num b = num (a - b) := by
  unfold num
  rw [← EReal.coe_sub, Nat.cast_sub h]

/-- A word below 2³¹ as a number. -/
theorem sitofp_num (φ : FTy) {n : Nat} (h : n < 2 ^ 31) : (FloatOps.sitofp φ (BitVec.ofNat 32 n) : Ideal φ) = num n := by
  show (((BitVec.ofNat 32 n).toInt : ℝ) : EReal) = num n
  rw [WordCmp.toInt_ofNat_of_lt (w := 32) h]
  unfold num
  push_cast
  rfl

/-- A one-bit word, widened, as a number. -/
theorem sitofp_bit (φ : FTy) (p : Prop) [Decidable p] :
    (FloatOps.sitofp φ (BitVec.setWidth 32 (BitVec.ofBool (decide p))) : Ideal φ) = if p then (1 : EReal) else 0 := by
  by_cases h : p
  · rw [if_pos h, decide_eq_true h]
    exact (sitofp_num φ (n := 1) (by decide)).trans (by unfold num; simp)
  · rw [if_neg h, decide_eq_false h]
    exact (sitofp_num φ (n := 0) (by decide)).trans (by unfold num; simp)

/-- Two one-bit words joined, widened, as a number. -/
theorem sitofp_both (φ : FTy) (p q : Prop) [Decidable p] [Decidable q] :
    (FloatOps.sitofp φ (BitVec.setWidth 32 (IntOp.andi (BitVec.ofBool (decide p)) (BitVec.ofBool (decide q)))) : Ideal φ)
      = if p ∧ q then (1 : EReal) else 0 := by
  rw [← sitofp_bit φ (p ∧ q)]
  by_cases hp : p <;> by_cases hq : q <;> simp [hp, hq, IntOp.andi]

/-- The places of a window of `n` rows from `a` on that lie in `[lo, hi)`, summed: the sum over `[lo, hi)`. -/
theorem sum_window {n a lo hi : Nat} (ha : a ≤ lo) (hn : hi ≤ a + n) (P : Nat → EReal) :
    ∑ w : Fin n, (if lo ≤ a + w.val ∧ a + w.val < hi then P (a + w.val) else 0) = ∑ r ∈ Finset.Ico lo hi, P r := by
  rw [Fin.sum_univ_eq_sum_range (fun w => if lo ≤ a + w ∧ a + w < hi then P (a + w) else 0) n]
  have e := Finset.sum_Ico_eq_sum_range (fun r => if lo ≤ r ∧ r < hi then P r else 0) a (a + n)
  rw [Nat.add_sub_cancel_left] at e
  rw [← e, ← Finset.sum_filter]
  refine Finset.sum_congr ?_ fun _ _ => rfl
  ext r
  simp only [Finset.mem_filter, Finset.mem_Ico]
  omega

/-- The same sum over the first places after `lo`. -/
theorem sum_places {n lo hi : Nat} (hn : hi ≤ lo + n) (P : Nat → EReal) :
    ∑ s : Fin n, (if s.val < hi - lo then P (lo + s.val) else 0) = ∑ r ∈ Finset.Ico lo hi, P r := by
  rw [← sum_window (le_refl lo) hn P]
  refine Finset.sum_congr rfl fun s _ => ?_
  by_cases h : s.val < hi - lo
  · rw [if_pos h, if_pos (by omega)]
  · rw [if_neg h, if_neg (by omega)]

/-- Taking the greatest of a fold and its start again changes nothing. -/
theorem max_fold (z : EReal) (v : Fin 9 → EReal) : max z (Finset.univ.fold max z v) = Finset.univ.fold max z v :=
  max_eq_right ((Finset.le_fold_max _).2 (Or.inl le_rfl))

end Cert.Proof.Spec
end
-- ==== Proof.RefValue.lean ====
/- The reference's result at an index: the formula of the specification. -/
module

public import proofs.«01_k».proof.Proof.RefRead
public import proofs.«01_k».proof.Proof.Spec

@[expose] public section

set_option maxRecDepth 16384

noncomputable section

namespace Cert.ReferenceIdeal

open Idealize.ShloMosaic
open Cert.Proof.Boxes Cert.Proof.Spec

variable [Cert.ReferenceIdeal.Facts]

theorem softR_val (v : FVec Ideal S16384x9 .f32) (b : Fin 16384) (c : Fin 9) : softR v (ix2 b c) = soft (fun c => v (ix2 b c)) c := by
  pointwise [softR, expR]
  simp only [max_fold]
  rfl

theorem mixR_val (v : FVec Ideal S16384x9 .f32) (w2 : FVec Ideal S9x9 .f32) (b2 : FVec Ideal S9 .f32) (b : Fin 16384) (c : Fin 9) :
    mixR v w2 b2 (ix2 b c) = (∑ k : Fin 9, v (ix2 b k) * w2 (ix2 k c)) + b2 (ix1 c) := by
  pointwise [mixR, rowsR]

theorem scoreR_val (h : FVec Ideal S16384x10x64 .f32) (wb : FVec Ideal S640x9 .f32) (bb : FVec Ideal S9 .f32) (b : Fin 16384) (c : Fin 9) :
    scoreR h wb bb (ix2 b c)
      = (∑ s : Fin 10, ∑ d : Fin 64, h (ix3 b s d) * wb (ix2 ⟨s.val * 64 + d.val, by omega⟩ c)) + bb (ix1 c) := by
  pointwise [scoreR, rowsR]
  rw [Fin.sum_univ_tiles 10 64 rfl]
  refine congrArg (· + bb (ix1 c)) (Finset.sum_congr rfl fun s _ => Finset.sum_congr rfl fun d _ => ?_)
  have e0 : (s.val * 64 + d.val) / 64 = s.val := by omega
  have e1 : (s.val * 64 + d.val) % 64 = d.val := by omega
  simp only [e0, e1]

theorem hidR_val (x e : FVec Ideal S89927x64 .f32) (cf : FVec Ideal S89927 .f32) (ws : FVec Ideal S64x64 .f32)
    (bs : FVec Ideal S64 .f32) (r : Fin 89927) (d : Fin 64) : hidR x e cf ws bs (ix2 r d)
      = max ((∑ k : Fin 64, (x (ix2 r k) + e (ix2 r k)) * ws (ix2 k d)) + bs (ix1 d)) 0 * cf (ix1 r) := by
  pointwise [hidR]

variable {x : FVec Ideal S89927x64 .f32} {pr : IVec S89927 32} {bl : IVec S16384 32} {cf : FVec Ideal S89927 .f32} {ws : FVec Ideal S64x64 .f32}
  {bs : FVec Ideal S64 .f32} {pe : FVec Ideal S9x64 .f32} {wb : FVec Ideal S640x9 .f32} {bb : FVec Ideal S9 .f32} {w2 : FVec Ideal S9x9 .f32}
  {b2 : FVec Ideal S9 .f32}

theorem emb_val (g : Good pr bl) (r : Fin 89927) (e : Fin 64) : embR pe pr (ix2 r e) = pe (ix2 (Fin.ofNat 9 (cls pr r.val)) e) :=
  (embR_at (fun r => cls pr r.val) pe pr (cls_word pr) (fun r => g.cls_lt r.val) r e).trans
    (congrArg (fun t => pe (ix2 t e)) (Fin.ext (Nat.mod_eq_of_lt (g.cls_lt r.val)).symm))

/-- The reference's result is the specification's. -/
theorem resR_val (g : Good pr bl) (b : Fin 16384) (c : Fin 9) :
    resR x pr bl cf ws bs pe wb bb w2 b2 (ix2 b c) = spec x pr bl cf ws bs pe wb bb w2 b2 b c := by
  have hp : ∀ (s : Fin 10) (d : Fin 64), padR blankR (pairR (takeR (offR bl) (boxR bl)) (boxR bl)) (hidR x (embR pe pr) cf ws bs) (ix3 b s d)
      = if s.val < len bl b.val then hid x pr cf ws bs pe (Fin.ofNat 89927 (offs bl b.val + s.val)) d else 0 := fun s d => by
    refine (padR_at g _ b s d).trans ?_
    refine if_congr Iff.rfl ?_ rfl
    refine (hidR_val x (embR pe pr) cf ws bs _ d).trans ?_
    simp only [emb_val g]
    rfl
  have hs : ∀ c : Fin 9, scoreR (padR blankR (pairR (takeR (offR bl) (boxR bl)) (boxR bl)) (hidR x (embR pe pr) cf ws bs)) wb bb (ix2 b c)
      = score (hid x pr cf ws bs pe) wb (offs bl b.val) (len bl b.val) c + bb (ix1 c) := fun c => by
    rw [scoreR_val]
    unfold score
    refine congrArg (· + bb (ix1 c)) (Finset.sum_congr rfl fun s _ => ?_)
    simp only [hp]
    by_cases h : s.val < len bl b.val
    · simp only [if_pos h]
    · simp only [if_neg h, zero_mul, Finset.sum_const_zero]
  unfold resR spec tail
  rw [softR_val]
  simp only [mixR_val, softR_val, hs]

/-- The same, as an array. -/
theorem resR_fun (g : Good pr bl) :
    resR x pr bl cf ws bs pe wb bb w2 b2 = (fun j => spec x pr bl cf ws bs pe wb bb w2 b2 (j 0) (j 1) : S16384x9.Idx → EReal) :=
  funext fun j => (congrArg _ (ValueIdx.eq_ix2 j)).trans (resR_val g (j 0) (j 1))

end Cert.ReferenceIdeal
end
-- ==== Proof.RunSetup.lean ====
/- The launch set-up of the kernel: what the buffers hold when the pallas_call is entered, the prefetched table, the
   windows' blocks, the memrefs and cells the body is handed, and the pieces of the invariant the launch supplies. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffers when the call is entered -/

/-- What core `c`'s buffer `b` holds after the host operations that precede the call. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the call: the host operations, then the call. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer no host operation writes is found as launched. -/
theorem V_keep (c : Dev nD) (b : Ref sig .tc) (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

/-- The argument arrays are found as launched. -/
theorem V_args (c : Dev nD) :
    V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg4 = m ((c : Thread nD τ).loc main_arg4) ∧ V m c main_arg5 = m ((c : Thread nD τ).loc main_arg5)
    ∧ V m c main_arg6 = m ((c : Thread nD τ).loc main_arg6) ∧ V m c main_arg7 = m ((c : Thread nD τ).loc main_arg7)
    ∧ V m c main_arg8 = m ((c : Thread nD τ).loc main_arg8) ∧ V m c main_arg9 = m ((c : Thread nD τ).loc main_arg9)
    ∧ V m c main_arg10 = m ((c : Thread nD τ).loc main_arg10) := by
  refine ⟨?_, ?_, ?_, ?_, ?_, ?_, ?_, ?_, ?_, ?_, ?_⟩ <;>
    (refine V_keep m c _ ?_
     simp only [hostOps0, List.flatten_cons, List.flatten_nil, List.append_nil, List.cons_append,
       List.nil_append, List.Forall, StableHlo.nullary_writes, StableHlo.unary_writes, StableHlo.binary_writes, StableHlo.ternary_writes, StableHlo.quaternary_writes, StableHlo.reshape_writes, StableHlo.binaryIndexed_writes, Finset.mem_singleton]
     repeat' apply And.intro
     all_goals exact StableHlo.devRef_ne_of_ne (by decide))

/-! ## The prefetched table -/

/-- The table's contents when the call is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table, so every contents is admissible. -/
abbrev adm : (pcfg0 (F := F)).Adm := ⟨tbl m, trivial⟩
abbrev cfgM : Pipeline.Cfg sig Λ₀ := cfg0 (adm m)

abbrev tbM : Memref sig .tc .smem S16385 .i32 := Memref.whole main_call0_v2
/-- A memref's buffer on core `c`: the type of its contents. -/
abbrev BufOf (c : Dev nD) {sp : Space} {S : Shape} {e : EltTy} (M : Memref sig .tc sp S e) : Type := Buf (Elt F) (M.view.loc (c : Thread nD τ))
/-- The table held at half the full share (the pipeline keeps the other half). -/
abbrev tbPt (c : Dev nD) (f : BufOf (F := F) c tbM) : sProp 𝕄 := tbM.view.loc (c : Thread nD τ) ↦{fullShare.right} f

theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The windows' blocks and staging buffers -/

/-- Window `w`'s block at point `t`, read off its array as the call finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

abbrev ms0 (t : Fin (cfgM m).N) : Memref sig .tc .vmem S1x1x256 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x1x256 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x256x1 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x256x1 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S64x64 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1x64 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S9x64 .f32 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S64x90 .f32 := spec0_7.stage ((cfgM m).slots t 7)
abbrev hs7 (t : Fin (cfgM m).N) : (ms7 m t).IsWhole := hstage0_7 (((cfgM m).slots t 7).cast nbuf0_7)
abbrev ms8 (t : Fin (cfgM m).N) : Memref sig .tc .vmem S90x9 .f32 := spec0_8.stage ((cfgM m).slots t 8)
abbrev hs8 (t : Fin (cfgM m).N) : (ms8 m t).IsWhole := hstage0_8 (((cfgM m).slots t 8).cast nbuf0_8)
abbrev ms9 (t : Fin (cfgM m).N) : Memref sig .tc .vmem S1x9 .f32 := spec0_9.stage ((cfgM m).slots t 9)
abbrev hs9 (t : Fin (cfgM m).N) : (ms9 m t).IsWhole := hstage0_9 (((cfgM m).slots t 9).cast nbuf0_9)
abbrev ms10 (t : Fin (cfgM m).N) : Memref sig .tc .vmem S9x9 .f32 := spec0_10.stage ((cfgM m).slots t 10)
abbrev hs10 (t : Fin (cfgM m).N) : (ms10 m t).IsWhole := hstage0_10 (((cfgM m).slots t 10).cast nbuf0_10)
abbrev ms11 (t : Fin (cfgM m).N) : Memref sig .tc .vmem S1x9 .f32 := spec0_11.stage ((cfgM m).slots t 11)
abbrev hs11 (t : Fin (cfgM m).N) : (ms11 m t).IsWhole := hstage0_11 (((cfgM m).slots t 11).cast nbuf0_11)
abbrev ms12 (t : Fin (cfgM m).N) : Memref sig .tc .vmem S256x9 .f32 := spec0_12.stage ((cfgM m).slots t 12)
abbrev hs12 (t : Fin (cfgM m).N) : (ms12 m t).IsWhole := hstage0_12 (((cfgM m).slots t 12).cast nbuf0_12)

/-! ## What the body is handed beside the windows -/

abbrev scX : Memref sig .tc .vmem S2x2576x64 .f32 := Memref.whole cc0_scratch0
abbrev scC : Memref sig .tc .vmem S2x2576x2 .f32 := Memref.whole cc0_scratch1
abbrev hbX : Memref sig .tc .hbm S89927x64 .f32 := Memref.whole main_arg0
abbrev hbC : Memref sig .tc .hbm S89927x2 .f32 := Memref.whole main_call0_v14

/-- The body as the pipeline calls it at point `t`. -/
abbrev bodyAt (t : Fin (cfgM m).N) : Prog (TpuEff nD τ sig (Elt F) Λ₀ .tc) PUnit :=
  cc0__body (grid0.coords t) tbM (Memref.isWhole_whole _) hbX (Memref.isWhole_whole _) hbC (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) (ms11 m t) (hs11 m t) (ms12 m t) (hs12 m t) scX (Memref.isWhole_whole _) scC (Memref.isWhole_whole _) cc0_scratch2 cc0_scratch3

theorem defs₀_row (t : Fin (cfgM m).N) :
    defs₀ (F := F) .tc (cfgM m).body ((cfgM m).bodyArgs t ((cfgM m).slots t)) = bodyAt m t := by
  unfold defs₀; rw [Defs.onTc_tc]

/-- The body's own transfer counters. -/
abbrev osem0 : Fin 4 → SemLoc sig := fun j => (![SemLoc.dma 18, SemLoc.dma 19, SemLoc.dma 20, SemLoc.dma 21] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [Pipeline.ownSems0_eq_of_list c osem0 [0, 1, 2, 3] (by decide) (by decide)]; rfl
/-- The arrays left in HBM that the body copies from. -/
def H0 : Finset (Ref sig .tc) := {main_arg0, main_call0_v14}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop((hbX.view.loc (c : Thread nD τ) ↦{fullShare} V m c main_arg0) ∗ (hbC.view.loc (c : Thread nD τ) ↦{fullShare} V m c main_call0_v14)) := by
  rw [BI.bigSep_eq_bigSepL_of_eq [main_arg0, main_call0_v14] (by decide) (by decide)]; rfl

/-- What the launch hands over beside the windows, piece by piece. -/
theorem PhiD_eq (c : Dev nD) :
    (Pipeline.ΦD osem0 spec0 H0 (V m) c : sProp 𝕄)
      = iprop(iprop((∃ f, scX.view.loc (c : Thread nD τ) ↦{fullShare} f) ∗ (∃ f, scC.view.loc (c : Thread nD τ) ↦{fullShare} f)) ∗ (∃ r, prngReg c r)
        ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)
        ∗ iprop((hbX.view.loc (c : Thread nD τ) ↦{fullShare} V m c main_arg0) ∗ (hbC.view.loc (c : Thread nD τ) ↦{fullShare} V m c main_call0_v14))) := by
  rw [Pipeline.ΦD_eq, scopedRest0_eq, ownSems00_eq, hbmPts0_eq]; try rfl

end Cert.KernelIdeal.Gen

end
-- ==== Proof.Table.lean ====
/- The prefetched table of the idealized kernel: word `n` is the number of rows of the first `n` boxes. -/
module

public import proofs.«01_k».proof.Proof.RunSetup
public import proofs.«01_k».proof.Proof.Boxes
public import Idealize.ShloMosaic.Lib.Claim

@[expose] public section

set_option maxRecDepth 16384

noncomputable section

namespace Cert.KernelIdeal

open Cert.KernelIdeal.Gen
open Idealize.ShloMosaic Idealize.ShloMosaic.TcCoe Idealize.ShloMosaic.ValueIdx Idealize.ShloMosaic.WordCmp
open Idealize.ShloMosaic.Routing (shape0 shape1)
open Cert.Proof.Boxes

variable {F : FTy → Type} [FloatOps F] (m : (ℓ : Loc nD τ sig) → Buf (Elt F) ℓ)

/-- The table is a zero followed by the running sums of the box lengths. -/
theorem table_eq (c : Dev nD) : V m c main_call0_v2
    = concatenate S16385 0 [⟨S1, broadcastInDim S1 ![] bcast_S_S1 (constantI S_ 32 0#32)⟩,
        ⟨S16384, Host.reduceWindow IntOp.addi ![16384] ![1] ![16383] ![0] (m ((c : Thread nD τ).loc main_arg2))
          (broadcastInDim S_ ![] bcast_S_S_ (constantI S_ 32 0#32)) reduceWindows_S16384_S16384_w16384s1p16383_0 h_S_⟩]
        concatenates_S1_S16384_S16385_d0 := by
  entry_read
  simp -implicitDefEqProofs only [StableHlo.TRef.toBuf, StableHlo.TRef.ofBuf, cast_cast, cast_eq]
  try rfl

/-- Word `j` of the table is the number of rows of the first `j` boxes. -/
theorem table_word (c : Dev nD) (j : Fin 16385) :
    V m c main_call0_v2 (ix1 j) = BitVec.ofNat 32 (offs (m ((c : Thread nD τ).loc main_arg2)) j.val) := by
  rw [table_eq]
  exact concat_word (by decide) _ rfl _ (fun j => cumsum_word _ rfl _ _ j) _ j

/-- The precondition of the claims, read off the launch memory. -/
abbrev GoodAt (c : Dev nD) : Prop := Good (m ((c : Thread nD τ).loc main_arg1)) (m ((c : Thread nD τ).loc main_arg2))

/-- Every word of the table is a row number, or the number of rows. -/
theorem table_le (g : GoodAt m 0) (j : S16385.Idx) : (tbl m 0 j).toNat ≤ 89927 := by
  obtain ⟨k, rfl⟩ : ∃ k : Fin 16385, j = ix1 k := ⟨j 0, eq_ix1 j⟩
  have hk := k.isLt
  have hle := g.offs_le (n := k.val) (by omega)
  have e : tbl m 0 (ix1 k) = BitVec.ofNat 32 (offs (m (((0 : Dev nD) : Thread nD τ).loc main_arg2)) k.val) := table_word m 0 k
  rw [e, toNat_ofNat_of_lt (w := 32) (by omega)]
  exact hle

end Cert.KernelIdeal
end
-- ==== Proof.Host.lean ====
/- What the idealized kernel's host lines put in the buffers its windows and copies read, at an index. -/
module

public import proofs.«01_k».proof.Proof.Table
public import proofs.«01_k».proof.Proof.Spec
public import Idealize.ShloMosaic.Lib.Pointwise

@[expose] public section

set_option maxRecDepth 16384

noncomputable section

namespace Cert.KernelIdeal

open Cert.KernelIdeal.Gen
open Idealize.ShloMosaic Idealize.ShloMosaic.TcCoe
open Cert.Proof.Boxes Cert.Proof.Spec

variable (m : (ℓ : Loc nD τ sig) → Buf (Elt Ideal) ℓ)

/-- The first 16384 words of the table, as numbers. -/
def loF (o : IVec S16385 32) : FVec Ideal S16384 .f32 := sitofp .f32 (extractStridedSlice S16384 ![0] o slices_S16385_S16384_0)
/-- The last 16384 words of the table, as numbers. -/
def hiF (o : IVec S16385 32) : FVec Ideal S16384 .f32 := sitofp .f32 (extractStridedSlice S16384 ![1] o slices_S16385_S16384_1)

theorem v7_eq (c : Dev nD) : V m c main_call0_v7 = shapeCast S64x1x256 (loF (V m c main_call0_v2)) shapeCasts_S16384_S64x1x256 := by
  rw [table_eq]
  entry_read
  simp -implicitDefEqProofs only [StableHlo.TRef.toBuf, StableHlo.TRef.ofBuf, cast_cast, cast_eq]
  exact congrArg (fun o => shapeCast S64x1x256 (loF o) shapeCasts_S16384_S64x1x256) rfl

theorem v8_eq (c : Dev nD) : V m c main_call0_v8 = shapeCast S64x1x256 (hiF (V m c main_call0_v2)) shapeCasts_S16384_S64x1x256 := by
  rw [table_eq]
  entry_read
  simp -implicitDefEqProofs only [StableHlo.TRef.toBuf, StableHlo.TRef.ofBuf, cast_cast, cast_eq]
  exact congrArg (fun o => shapeCast S64x1x256 (hiF o) shapeCasts_S16384_S64x1x256) rfl

theorem v9_eq (c : Dev nD) : V m c main_call0_v9 = shapeCast S64x256x1 (loF (V m c main_call0_v2)) shapeCasts_S16384_S64x256x1 := by
  rw [table_eq]
  entry_read
  simp -implicitDefEqProofs only [StableHlo.TRef.toBuf, StableHlo.TRef.ofBuf, cast_cast, cast_eq]
  exact congrArg (fun o => shapeCast S64x256x1 (loF o) shapeCasts_S16384_S64x256x1) rfl

theorem v10_eq (c : Dev nD) : V m c main_call0_v10 = shapeCast S64x256x1 (hiF (V m c main_call0_v2)) shapeCasts_S16384_S64x256x1 := by
  rw [table_eq]
  entry_read
  simp -implicitDefEqProofs only [StableHlo.TRef.toBuf, StableHlo.TRef.ofBuf, cast_cast, cast_eq]
  exact congrArg (fun o => shapeCast S64x256x1 (hiF o) shapeCasts_S16384_S64x256x1) rfl

theorem v14_eq (c : Dev nD) : V m c main_call0_v14 = concatenate S89927x2 1 [⟨S89927x1, broadcastInDim S89927x1 ![0] bcast_S89927_S89927x1_0 (m ((c : Thread nD τ).loc main_arg3))⟩,
    ⟨S89927x1, broadcastInDim S89927x1 ![0] bcast_S89927_S89927x1_0 (sitofp .f32 (m ((c : Thread nD τ).loc main_arg1)) : FVec Ideal S89927 .f32)⟩] concatenates_S89927x1_S89927x1_S89927x2_d1 := by
  entry_read
  simp -implicitDefEqProofs only [StableHlo.TRef.toBuf, StableHlo.TRef.ofBuf, cast_cast, cast_eq]
  try rfl

theorem v17_eq (c : Dev nD) : V m c main_call0_v17 = shapeCast S64x90 (transpose S64x10x9 [1, 0, 2] (shapeCast S10x64x9 (m ((c : Thread nD τ).loc main_arg7)) shapeCasts_S640x9_S10x64x9) transposes_S10x64x9_S64x10x9_1_0_2) shapeCasts_S64x10x9_S64x90 := by
  entry_read
  try simp -implicitDefEqProofs only [StableHlo.TRef.toBuf, StableHlo.TRef.ofBuf, cast_cast, cast_eq]
  try rfl

/-- The remainder by nine of a row number, as the host computes it. -/
theorem rem_word : ∀ k : Fin 90, IntOp.remsi ArithUnit.host (BitVec.ofNat 32 k.val) (Scalar.select (IntOp.cmpi CmpIPredicate.eq 9#32 0#32) 1#32 9#32)
    = BitVec.ofNat 32 (k.val % 9) := by decide +kernel

theorem flag_word : ∀ (r n : Fin 9), IntOp.cmpi CmpIPredicate.eq (Scalar.select (IntOp.andi
    (IntOp.cmpi CmpIPredicate.ne (IntOp.cmpi CmpIPredicate.slt (BitVec.ofNat 32 r.val) 0#32)
      (IntOp.cmpi CmpIPredicate.slt (Scalar.select (IntOp.cmpi CmpIPredicate.eq 9#32 0#32) 1#32 9#32) 0#32))
    (IntOp.cmpi CmpIPredicate.ne (BitVec.ofNat 32 r.val) 0#32))
    (IntOp.addi (BitVec.ofNat 32 r.val) (Scalar.select (IntOp.cmpi CmpIPredicate.eq 9#32 0#32) 1#32 9#32)) (BitVec.ofNat 32 r.val))
    (BitVec.ofNat 32 n.val) = BitVec.ofBool (decide (r = n)) := by decide +kernel

/-- The weights with a row's place moved from the row index to the column index. -/
theorem pack_at (w : FVec Ideal S640x9 .f32) (d : Fin 64) (s : Fin 10) (n : Fin 9) :
    shapeCast S64x90 (transpose S64x10x9 [1, 0, 2] (shapeCast S10x64x9 w shapeCasts_S640x9_S10x64x9) transposes_S10x64x9_S64x10x9_1_0_2)
      shapeCasts_S64x10x9_S64x90 (ix2 d ⟨s.val * 9 + n.val, by omega⟩) = w (ix2 ⟨s.val * 64 + d.val, by omega⟩ n) := by
  pointwise

theorem v26_at (c : Dev nD) (k : Fin 90) (n : Fin 9) : V m c main_call0_v26 (ix2 k n) = (if k.val % 9 = n.val then 1 else 0 : EReal) := by
  entry_read
  simp -implicitDefEqProofs only [StableHlo.TRef.toBuf, StableHlo.TRef.ofBuf, cast_cast, cast_eq]
  pointwise
  rw [rem_word]
  refine (congrArg _ (flag_word ⟨k.val % 9, Nat.mod_lt _ (by decide)⟩ n)).trans ?_
  by_cases h : k.val % 9 = n.val
  · rw [if_pos h, decide_eq_true (Fin.ext h)]
    show ((1 : ℕ) : EReal) = 1
    exact Nat.cast_one
  · rw [if_neg h, decide_eq_false (fun e => h (congrArg Fin.val e))]
    show ((0 : ℕ) : EReal) = 0
    exact Nat.cast_zero

theorem v27_at (c : Dev nD) (d : Fin 64) : V m c main_call0_v27 (ix2 0 d) = m ((c : Thread nD τ).loc main_arg5) (ix1 d) := by
  entry_read
  try simp -implicitDefEqProofs only [StableHlo.TRef.toBuf, StableHlo.TRef.ofBuf, cast_cast, cast_eq]
  pointwise
theorem v28_at (c : Dev nD) (d : Fin 9) : V m c main_call0_v28 (ix2 0 d) = m ((c : Thread nD τ).loc main_arg8) (ix1 d) := by
  entry_read
  try simp -implicitDefEqProofs only [StableHlo.TRef.toBuf, StableHlo.TRef.ofBuf, cast_cast, cast_eq]
  pointwise
theorem v29_at (c : Dev nD) (d : Fin 9) : V m c main_call0_v29 (ix2 0 d) = m ((c : Thread nD τ).loc main_arg10) (ix1 d) := by
  entry_read
  try simp -implicitDefEqProofs only [StableHlo.TRef.toBuf, StableHlo.TRef.ofBuf, cast_cast, cast_eq]
  pointwise

variable {m} {c : Dev nD} (g : GoodAt m c)
include g

theorem loF_at (b : Fin 16384) : loF (V m c main_call0_v2) (ix1 b) = num (offs (m ((c : Thread nD τ).loc main_arg2)) b.val) := by
  pointwise [loF]
  have hb := g.offs_le (n := b.val) (by omega)
  exact (congrArg _ (table_word m c ⟨b.val, by omega⟩)).trans (sitofp_num _ (lt_of_le_of_lt hb (by decide)))

theorem hiF_at (b : Fin 16384) : hiF (V m c main_call0_v2) (ix1 b) = num (offs (m ((c : Thread nD τ).loc main_arg2)) (b.val + 1)) := by
  pointwise [hiF]
  have hb := g.offs_le (n := b.val + 1) (by omega)
  refine (congrArg _ ((congrArg (V m c main_call0_v2) (congrArg ix1 (Fin.ext ?_))).trans (table_word m c ⟨b.val + 1, by omega⟩))).trans (sitofp_num _ (lt_of_le_of_lt hb (by decide)))
  exact Nat.add_comm _ _

theorem v7_at (t : Fin 64) (i : Fin 256) : V m c main_call0_v7 (ix3 t 0 i) = num (offs (m ((c : Thread nD τ).loc main_arg2)) (t.val * 256 + i.val)) := by
  rw [v7_eq]
  pointwise
  exact loF_at g ⟨t.val * 256 + i.val, by omega⟩
theorem v8_at (t : Fin 64) (i : Fin 256) : V m c main_call0_v8 (ix3 t 0 i) = num (offs (m ((c : Thread nD τ).loc main_arg2)) (t.val * 256 + i.val + 1)) := by
  rw [v8_eq]
  pointwise
  exact hiF_at g ⟨t.val * 256 + i.val, by omega⟩
theorem v9_at (t : Fin 64) (i : Fin 256) : V m c main_call0_v9 (ix3 t i 0) = num (offs (m ((c : Thread nD τ).loc main_arg2)) (t.val * 256 + i.val)) := by
  rw [v9_eq]
  pointwise
  exact loF_at g ⟨t.val * 256 + i.val, by omega⟩
theorem v10_at (t : Fin 64) (i : Fin 256) : V m c main_call0_v10 (ix3 t i 0) = num (offs (m ((c : Thread nD τ).loc main_arg2)) (t.val * 256 + i.val + 1)) := by
  rw [v10_eq]
  pointwise
  exact hiF_at g ⟨t.val * 256 + i.val, by omega⟩

theorem v14_cls (r : Fin 89927) : V m c main_call0_v14 (ix2 r 1) = num (cls (m ((c : Thread nD τ).loc main_arg1)) r.val) := by
  rw [v14_eq]
  pointwise
  have hc := g.cls_lt r.val
  exact (congrArg _ (cls_word _ r)).trans (sitofp_num _ (lt_of_lt_of_le hc (by decide)))

omit g in
theorem v14_conf (r : Fin 89927) : V m c main_call0_v14 (ix2 r 0) = m ((c : Thread nD τ).loc main_arg3) (ix1 r) := by
  rw [v14_eq]
  pointwise

omit g in
theorem v17_at (d : Fin 64) (s : Fin 10) (n : Fin 9) : V m c main_call0_v17 (ix2 d ⟨s.val * 9 + n.val, by omega⟩)
    = m ((c : Thread nD τ).loc main_arg7) (ix2 ⟨s.val * 64 + d.val, by omega⟩ n) := by
  rw [v17_eq]
  exact pack_at _ d s n

end Cert.KernelIdeal
end
-- ==== Proof.RunRing.lean ====
/- The double-buffered copies. One scratch buffer of two slots, each slot 2575 rows that a transfer fills and one row
   kept at zero; the source is an array left in HBM, copied from at a row the prefetched table names. Stated for any
   width of row, so that the features' copies and the scores' copies are the same lemmas. -/
module

public import proofs.«01_k».proof.Proof.RunSetup
public import Idealize.ShloMosaic.Lib.ValueLayout
public import Idealize.ShloMosaic.Lib.ValueIdxCore
public import Idealize.ShloMosaic.Lib.Transfers
public import Idealize.ShloMosaic.Lib.ViewIndex
public import Idealize.ShloMosaic.Lib.Pipeline.ValueKit.Geometry

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3 reshapeEquiv_ix2_1ab)

variable {F : FTy → Type} [FloatOps F]

local notation "𝕄" => MT nD τ sig Unit (Elt F) ℕ (Pipeline.UD sig nD τ) ℕ

/-! ## Shapes, slots, sources -/

abbrev Sc (D : ℕ) : Shape := ⟨3, ![2, 2576, D]⟩
abbrev Sl (D : ℕ) : Shape := ⟨3, ![1, 2575, D]⟩
abbrev Fu (D : ℕ) : Shape := ⟨3, ![1, 2576, D]⟩
abbrev Wn (D : ℕ) : Shape := ⟨2, ![2575, D]⟩
abbrev Sr (D : ℕ) : Shape := ⟨2, ![89927, D]⟩

variable {D : ℕ}

theorem inb_sl (s : Fin 2) : ∀ a, (![s.val, 0, 0] : Fin 3 → ℕ) a + (Sl D).size a ≤ (Sc D).size a := by
  have := s.isLt; intro a; fin_cases a <;> simp <;> omega
theorem inb_fu (s : Fin 2) : ∀ a, (![s.val, 0, 0] : Fin 3 → ℕ) a + (Fu D).size a ≤ (Sc D).size a := by
  have := s.isLt; intro a; fin_cases a <;> simp <;> omega
theorem inb_sr (a : Fin 87353) : ∀ b, (![a.val, 0] : Fin 2 → ℕ) b + (Wn D).size b ≤ (Sr D).size b := by
  have := a.isLt; intro b; fin_cases b <;> simp <;> omega

/-- The 2575 rows of slot `s` a transfer fills. -/
abbrev slotM (sc : Memref sig .tc .vmem (Sc D) .f32) (hq : (Sl D).Squeezes (Wn D)) (s : Fin 2) : Memref sig .tc .vmem (Wn D) .f32 :=
  (sc.slice (Rect.unit (s := Sc D) ![s.val, 0, 0] (Sl D).size (inb_sl s)) (fun _ => rfl)).squeeze (Wn D) hq
/-- All 2576 rows of slot `s`. -/
abbrev fullR (s : Fin 2) : Rect (Sc D) := Rect.unit (s := Sc D) ![s.val, 0, 0] (Fu D).size (inb_fu s)
/-- The 2575 rows of the source from row `a`. -/
abbrev srcM (hb : Memref sig .tc .hbm (Sr D) .f32) (a : Fin 87353) : Memref sig .tc .hbm (Wn D) .f32 :=
  hb.slice (Rect.unit (s := Sr D) ![a.val, 0] (Wn D).size (inb_sr a)) (fun _ => rfl)

/-- What a slot reads once the rows from `a` have landed: row `r` of it is row `a + r` of the source, the last row zero. -/
def win (a : Fin 87353) (X : (Sr D).Idx → F .f32) (z : F .f32) : (Sc D).Idx → F .f32 := fun i =>
  if h : (i 1).val < 2575 then X (ix2 ⟨a.val + (i 1).val, by have := a.isLt; omega⟩ (i 2)) else z

/-- An index of the first `n` rows of slot `s`, in the scratch's coordinates. -/
theorem emb_rows {n : ℕ} (hn : n ≤ 2576) (s : Fin 2) (inb : ∀ a, (![s.val, 0, 0] : Fin 3 → ℕ) a + (![1, n, D] : Fin 3 → ℕ) a ≤ (Sc D).size a) (r : Fin n) (d : Fin D) :
    (Rect.unit (s := Sc D) ![s.val, 0, 0] ![1, n, D] inb).emb (ix3 (0 : Fin 1) r d) = ix3 s ⟨r.val, lt_of_lt_of_le r.isLt hn⟩ d := by
  funext a; apply Fin.ext
  rw [ValueKit.rect_emb_unit_val]
  match a with
  | ⟨0, _⟩ => rfl
  | ⟨1, _⟩ => exact Nat.zero_add _
  | ⟨2, _⟩ => exact Nat.zero_add _

theorem emb_src (a : Fin 87353) (r : Fin 2575) (d : Fin D) :
    (Rect.unit (s := Sr D) ![a.val, 0] (Wn D).size (inb_sr a)).emb (ix2 r d) = ix2 ⟨a.val + r.val, by have := a.isLt; have := r.isLt; omega⟩ d := by
  funext b; apply Fin.ext
  rw [ValueKit.rect_emb_unit_val]
  match b with
  | ⟨0, _⟩ => rfl
  | ⟨1, _⟩ => exact Nat.zero_add _

theorem win_lt {D : ℕ} (a : Fin 87353) (X : (Sr D).Idx → F .f32) (z : F .f32) (s : Fin 2) (r : Fin 2576) (d : Fin D) (h : r.val < 2575) :
    win a X z (ix3 s r d) = X (ix2 ⟨a.val + r.val, by have := a.isLt; omega⟩ d) := dif_pos h
theorem win_last {D : ℕ} (a : Fin 87353) (X : (Sr D).Idx → F .f32) (z : F .f32) (s : Fin 2) (r : Fin 2576) (d : Fin D) (h : ¬ r.val < 2575) :
    win a X z (ix3 s r d) = z := dif_neg h

section
variable (sc : Memref sig .tc .vmem (Sc D) .f32) (hq : (Sl D).Squeezes (Wn D)) (hb : Memref sig .tc .hbm (Sr D) .f32)

theorem read_slot (s : Fin 2) (f : sc.view.ty.Contents (Elt F)) (r : Fin 2575) (d : Fin D) :
    (slotM sc hq s).view.read (Elt F) f (ix2 r d) = sc.view.read (Elt F) f (ix3 s ⟨r.val, by omega⟩ d) := by
  show sc.view.read (Elt F) f ((Rect.unit (s := Sc D) ![s.val, 0, 0] (Sl D).size (inb_sl s)).emb (Shape.reshapeEquiv hq.numel_eq (ix2 r d))) = _
  rw [reshapeEquiv_ix2_1ab]
  exact congrArg _ (emb_rows (by omega) s _ r d)

theorem read_src (a : Fin 87353) (W : hb.view.ty.Contents (Elt F)) (r : Fin 2575) (d : Fin D) :
    (srcM hb a).view.read (Elt F) W (ix2 r d) = hb.view.read (Elt F) W (ix2 ⟨a.val + r.val, by have := a.isLt; have := r.isLt; omega⟩ d) := by
  show hb.view.read (Elt F) W ((Rect.unit (s := Sr D) ![a.val, 0] (Wn D).size (inb_sr a)).emb (ix2 r d)) = _
  rw [emb_src]

theorem eq_of_read {sp : Space} {S : Shape} {e : EltTy} (v : View sig .tc sp S e) (f g : v.ty.Contents (Elt F)) (x : S.Idx)
    (h : v.read (Elt F) f x = v.read (Elt F) g x) : f (v.emb x) = g (v.emb x) := by
  rw [View.read_apply, View.read_apply] at h
  exact cast_inj _ |>.mp h

/-- What a transfer leaves in the slot's rows. -/
theorem landed (hsc : sc.IsWhole) (s : Fin 2) (a : Fin 87353) (W : hb.view.ty.Contents (Elt F)) (z : F .f32) (f : sc.view.ty.Contents (Elt F)) :
    ∀ i ∈ (slotM sc hq s).view.set,
      (slotM sc hq s).view.write (Elt F) f ((srcM hb a).view.read (Elt F) W) Finset.univ i
        = hsc.unread (win a (hb.view.read (Elt F) W) z) i := by
  intro i hi
  obtain ⟨x, -, rfl⟩ := Finset.mem_map.mp hi
  apply eq_of_read (F := F) (slotM sc hq s).view
  rw [View.read_write_of_mem _ _ (Finset.mem_univ _)]
  obtain ⟨r, d, rfl⟩ : ∃ (r : Fin 2575) (d : Fin D), x = ix2 r d := ⟨x 0, x 1, eq_ix2 x⟩
  rw [read_slot, read_src, hsc.read_unread, win_lt _ _ _ _ _ _ r.isLt]

theorem emb_slot (s : Fin 2) (r : Fin 2575) (d : Fin D) : (slotM sc hq s).view.emb (ix2 r d) = sc.view.emb (ix3 s ⟨r.val, by omega⟩ d) := by
  show sc.view.emb ((Rect.unit (s := Sc D) ![s.val, 0, 0] (Sl D).size (inb_sl s)).emb (Shape.reshapeEquiv hq.numel_eq (ix2 r d))) = _
  rw [reshapeEquiv_ix2_1ab]
  exact congrArg _ (emb_rows (by omega) s _ r d)

theorem emb_full (s : Fin 2) (r : Fin 2576) (d : Fin D) : (sc.access (fullR s)).emb (ix3 (0 : Fin 1) r d) = sc.view.emb (ix3 s r d) :=
  congrArg sc.view.emb (emb_rows (le_refl _) s _ r d)

theorem slot_sub_full (s : Fin 2) : (slotM sc hq s).view.set ⊆ (sc.access (fullR s)).set := by
  intro i hi
  obtain ⟨x, -, rfl⟩ := Finset.mem_map.mp hi
  obtain ⟨r, d, rfl⟩ : ∃ (r : Fin 2575) (d : Fin D), x = ix2 r d := ⟨x 0, x 1, eq_ix2 x⟩
  refine Finset.mem_map.mpr ⟨ix3 (0 : Fin 1) ⟨r.val, by omega⟩ d, Finset.mem_univ _, ?_⟩
  exact (emb_full sc s _ d).trans (emb_slot sc hq s r d).symm

/-- An element of a slot outside the rows a transfer fills is in its last row. -/
theorem last_row (s : Fin 2) : ∀ i ∈ (sc.access (fullR s)).set \ (slotM sc hq s).view.set, ∃ d : Fin D, i = sc.view.emb (ix3 s ⟨2575, by omega⟩ d) := by
  intro i hi
  rw [Finset.mem_sdiff] at hi
  obtain ⟨x, -, rfl⟩ := Finset.mem_map.mp hi.1
  obtain ⟨u, r, d, rfl⟩ : ∃ (u : Fin 1) (r : Fin 2576) (d : Fin D), x = ix3 u r d := ⟨x 0, x 1, x 2, eq_ix3 x⟩
  obtain rfl : u = 0 := Subsingleton.elim _ _
  by_cases hr : r.val < 2575
  · refine absurd (Finset.mem_map.mpr ⟨ix2 ⟨r.val, hr⟩ d, Finset.mem_univ _, ?_⟩) hi.2
    exact (emb_slot sc hq s ⟨r.val, hr⟩ d).trans (emb_full sc s r d).symm
  · have hr' : r = ⟨2575, by omega⟩ := Fin.ext (by have := r.isLt; show r.val = 2575; omega)
    exact ⟨d, hr' ▸ emb_full sc s r d⟩

/-- The two slots are apart and make up the scratch. -/
theorem full_disj : Disjoint (sc.access (fullR 0)).set (sc.access (fullR 1)).set := by
  refine View.disjoint_slice ?_
  rw [Finset.disjoint_left]; intro i h0 h1
  have a := Rect.mem_set_unit.mp h0 0; have b := Rect.mem_set_unit.mp h1 0
  simp at a b; omega

theorem full_cover (hsc : sc.IsWhole) : (sc.access (fullR 0)).set ∪ (sc.access (fullR 1)).set = Finset.univ := by
  rw [← hsc.set_eq_univ]
  apply Finset.Subset.antisymm
  · intro i hi
    rcases Finset.mem_union.mp hi with h | h <;> (obtain ⟨x, -, rfl⟩ := Finset.mem_map.mp h; exact sc.view.emb_mem_set _)
  · intro i hi
    obtain ⟨x, -, rfl⟩ := Finset.mem_map.mp hi
    obtain ⟨u, r, d, rfl⟩ : ∃ (u : Fin 2) (r : Fin 2576) (d : Fin D), x = ix3 u r d := ⟨x 0, x 1, x 2, eq_ix3 x⟩
    have key : ∀ s : Fin 2, sc.view.emb (ix3 s r d) ∈ (sc.access (fullR s)).set := fun s =>
      Finset.mem_map.mpr ⟨ix3 (0 : Fin 1) r d, Finset.mem_univ _, emb_full sc s r d⟩
    fin_cases u
    · exact Finset.mem_union_left _ (key 0)
    · exact Finset.mem_union_right _ (key 1)

/-! ## The pieces held, and the transfer and the wait as steps between them -/

variable (c : Dev nD) (sm : SemLoc sig) (q : PosShare TreeShare) (W : hb.view.ty.Contents (Elt F)) (z : F .f32)

/-- Slot `s` free: its rows at anything, its counter at zero, its share of the source. -/
def Free (s : Fin 2) : sProp 𝕄 :=
  iprop((∃ f, (slotM sc hq s).view.loc (c : Thread nD τ) ↦[(slotM sc hq s).view.set]{fullShare} f) ∗ semVal ((c : Thread nD τ), sm) 0
    ∗ (hb.view.loc (c : Thread nD τ) ↦{q} W))

/-- The rows from `a` on their way into slot `s`. -/
def Fly (hsc : sc.IsWhole) (s : Fin 2) (a : Fin 87353) : sProp 𝕄 :=
  iprop(Transfers.Flight countersEmb (c : Thread nD τ) sm default ((slotM sc hq s).view.amount sm)
      iprop(((slotM sc hq s).view.loc (c : Thread nD τ) ↦[(slotM sc hq s).view.set]{fullShare} hsc.unread (win a (hb.view.read (Elt F) W) z))
        ∗ ((srcM hb a).view.loc (c : Thread nD τ) ↦[(srcM hb a).view.set]{q} W))
    ∗ (hb.view.loc (c : Thread nD τ) ↦[Finset.univ \ (srcM hb a).view.set]{q} W))

/-- Slot `s`'s last row at zero. -/
def Zrow (hsc : sc.IsWhole) (s : Fin 2) : sProp 𝕄 :=
  iprop(sc.view.loc (c : Thread nD τ) ↦[(sc.access (fullR s)).set \ (slotM sc hq s).view.set]{fullShare} hsc.unread (fun _ => z))

/-- Slot `s` whole at the rows from `a` and the zero row. -/
def Held (hsc : sc.IsWhole) (s : Fin 2) (a : Fin 87353) : sProp 𝕄 :=
  iprop(sc.view.loc (c : Thread nD τ) ↦[(sc.access (fullR s)).set]{fullShare} hsc.unread (win a (hb.view.read (Elt F) W) z))

/-- The last row at zero is the last row of what lands. -/
theorem row_congr (hsc : sc.IsWhole) (s : Fin 2) (a : Fin 87353) :
    (sc.view.loc (c : Thread nD τ) ↦[(sc.access (fullR s)).set \ (slotM sc hq s).view.set]{fullShare} hsc.unread (win a (hb.view.read (Elt F) W) z) : sProp 𝕄)
      = (sc.view.loc (c : Thread nD τ) ↦[(sc.access (fullR s)).set \ (slotM sc hq s).view.set]{fullShare} hsc.unread (fun _ => z)) := by
  refine pointsTo_congr fun i hi => ?_
  obtain ⟨d, rfl⟩ := last_row sc hq s i hi
  apply eq_of_read (F := F) sc.view
  rw [hsc.read_unread, hsc.read_unread, win_last _ _ _ _ _ _ (lt_irrefl 2575)]

/-- The rows a transfer leaves are the rows from `a`. -/
theorem slot_congr (hsc : sc.IsWhole) (s : Fin 2) (a : Fin 87353) (f : sc.view.ty.Contents (Elt F)) :
    ((slotM sc hq s).view.loc (c : Thread nD τ) ↦[(slotM sc hq s).view.set]{fullShare}
        (slotM sc hq s).view.write (Elt F) f (ReadAs.same.apply ((srcM hb a).view.read (Elt F) W)) Finset.univ : sProp 𝕄)
      = ((slotM sc hq s).view.loc (c : Thread nD τ) ↦[(slotM sc hq s).view.set]{fullShare} hsc.unread (win a (hb.view.read (Elt F) W) z)) :=
  pointsTo_congr (landed (F := F) sc hq hb hsc s a W z f)

theorem start_fly {α : Type} {Q : α → sProp 𝕄} (hsc : sc.IsWhole) (s : Fin 2) (a : Fin 87353) (hD : 0 < (Wn D).numel)
    {o5 : Fin 3 → ℕ} (h5 : o5 = ![s.val, 0, 0]) (i5 : ∀ b, o5 b + (Sl D).size b ≤ (Sc D).size b) (u5)
    {o6 : Fin 2 → ℕ} (h6 : o6 = ![a.val, 0]) (i6 : ∀ b, o6 b + (Wn D).size b ≤ (Sr D).size b) (u6)
    {sm' : SemLoc sig} (h4 : sm' = sm) (hs hd ht) (k : PUnit → Prog (TpuEff nD τ sig (Elt F) Λ₀ .tc) α) :
    Free sc hq hb c sm q W s
      ⊢ iprop((Fly sc hq hb c sm q W z hsc s a -∗ wp frame (wpE (defs₀ (F := F)) Variants.none (c : Thread nD τ) none) Set.univ (k ⟨⟩) Q)
        -∗ wp frame (wpE (defs₀ (F := F)) Variants.none (c : Thread nD τ) none) Set.univ
          (.op (.enqueueDma (hb.slice (Rect.unit (s := Sr D) o6 (Wn D).size i6) u6)
            (.here ((sc.slice (Rect.unit (s := Sc D) o5 (Sl D).size i5) u5).squeeze (Wn D) hq)) sm' hs hd ht) k) Q) := by
  subst h5 h6 h4
  unfold Free Fly
  iintro ⟨⟨%f, Hd⟩, Hv, Hs⟩ Hk
  ihave Hs' := (pointsTo_split_subset (Finset.subset_univ (srcM hb a).view.set)).1 $$ Hs
  icases Hs' with ⟨Hs, Hrest⟩
  have h := Transfers.wp_dmaLocal (defs := defs₀ (F := F)) (Q := Q) countersEmb Variants.none (c : Thread nD τ) none (src := srcM hb a) (dst := slotM sc hq s)
    (via := ReadAs.same) (hsrc := hs) (hdst := hd) (hsem := ht) (k := k) (q := q) (fs := W) (fd := f) default _ rfl
    (View.amount_pos _ sm' hD) (Finset.Subset.refl _)
  rw [slot_congr (F := F) sc hq hb c W z hsc s a f] at h
  iapply h $$ [Hs Hd Hv]
  · isplitl [Hs]; · iexact Hs
    isplitl [Hd] <;> iassumption
  iintro Hf
  iapply Hk
  isplitl [Hf]
  · iexact Hf
  · iexact Hrest

theorem finish_fly {α : Type} {Q : α → sProp 𝕄} (hsc : sc.IsWhole) (s : Fin 2) (a : Fin 87353)
    {sem : DmaSem sig} (h4 : SemLoc.dma sem = sm) {sp' : Space} {s' : Shape} {e' : EltTy}
    {srcw : Memref sig .tc sp' s' e'}
    {o5 : Fin 3 → ℕ} (h5 : o5 = ![s.val, 0, 0]) (i5 : ∀ b, o5 b + (Sl D).size b ≤ (Sc D).size b) (u5)
    (hs hd) (k : PUnit → Prog (TpuEff nD τ sig (Elt F) Λ₀ .tc) α) (Ws : Waits sig Unit) :
    iprop(Fly sc hq hb c sm q W z hsc s a ∗ Zrow sc hq c z hsc s ∗ owes (c : Thread nD τ) 0 Ws)
      ⊢ iprop((iprop(Held sc hb c W z hsc s a ∗ semVal ((c : Thread nD τ), sm) 0 ∗ (hb.view.loc (c : Thread nD τ) ↦{q} W) ∗ ∃ Ws', owes (c : Thread nD τ) 0 Ws')
            -∗ wp frame (wpE (defs₀ (F := F)) Variants.none (c : Thread nD τ) none) Set.univ (k ⟨⟩) Q)
        -∗ wp frame (wpE (defs₀ (F := F)) Variants.none (c : Thread nD τ) none) Set.univ
          (.op (.waitDma2 sem srcw ((sc.slice (Rect.unit (s := Sc D) o5 (Sl D).size i5) u5).squeeze (Wn D) hq) hs hd) k) Q) := by
  subst h5 h4
  unfold Fly Zrow Held
  iintro ⟨⟨Hf, Hrest⟩, Hz, HW⟩ Hk
  iapply (Transfers.wp_waitLocal countersEmb Variants.none (c : Thread nD τ) none (dstw := slotM sc hq s) default rfl) $$ [Hf HW]
  · isplitl [Hf] <;> iassumption
  iintro ⟨⟨Hd, Hs⟩, Hv, HW⟩
  iapply Hk
  isplitl [Hd Hz]
  · iapply (pointsTo_split_subset (slot_sub_full sc hq s)).2
    isplitl [Hd]; · iexact Hd
    rw [row_congr sc hq hb c W z hsc s a]
    iexact Hz
  isplitl [Hv]; · iexact Hv
  isplitl [Hs Hrest]
  · iapply (pointsTo_split_subset (Finset.subset_univ (srcM hb a).view.set)).2
    isplitl [Hs] <;> iassumption
  · iexists _; iexact HW

/-- After its use the slot is its zero row and its free rows again. -/
theorem held_split (hsc : sc.IsWhole) (s : Fin 2) (a : Fin 87353) :
    iprop(Held sc hb c W z hsc s a ∗ semVal ((c : Thread nD τ), sm) 0 ∗ (hb.view.loc (c : Thread nD τ) ↦{q} W))
      ⊢ iprop(Free sc hq hb c sm q W s ∗ Zrow sc hq c z hsc s) := by
  unfold Held Free Zrow
  iintro ⟨H, Hv, Hs⟩
  ihave H' := (pointsTo_split_subset (slot_sub_full sc hq s)).1 $$ H
  icases H' with ⟨Hd, Hz⟩
  isplitl [Hd Hv Hs]
  · isplitl [Hd]; · iexists _; iexact Hd
    isplitl [Hv] <;> iassumption
  rw [← row_congr sc hq hb c W z hsc s a]
  iexact Hz

/-- The scratch whole is its two slots. -/
theorem whole_split (hsc : sc.IsWhole) (f : sc.view.ty.Contents (Elt F)) :
    (sc.view.loc (c : Thread nD τ) ↦{fullShare} f : sProp 𝕄)
      ⊢ iprop((sc.view.loc (c : Thread nD τ) ↦[(sc.access (fullR 0)).set]{fullShare} f) ∗ (sc.view.loc (c : Thread nD τ) ↦[(sc.access (fullR 1)).set]{fullShare} f)) := by
  have h : (sc.view.loc (c : Thread nD τ) ↦{fullShare} f : sProp 𝕄) ⊢ _ :=
    (pointsTo_split_subset (Finset.subset_univ (sc.access (fullR 0)).set)).1
  have he : (Finset.univ \ (sc.access (fullR 0)).set) = (sc.access (fullR 1)).set := by
    rw [← full_cover sc hsc, Finset.union_sdiff_left]
    exact Finset.sdiff_eq_self_of_disjoint (full_disj sc).symm
  rw [he] at h
  exact h

/-- The scratch whole with its last rows at zero, the counters at zero and the source whole: both slots free. -/
theorem init_split (hsc : sc.IsWhole) (f : sc.view.ty.Contents (Elt F)) (sm' : SemLoc sig)
    (hz : ∀ (s : Fin 2) (d : Fin D), sc.view.read (Elt F) f (ix3 s ⟨2575, by omega⟩ d) = z) :
    iprop((sc.view.loc (c : Thread nD τ) ↦{fullShare} f) ∗ semVal ((c : Thread nD τ), sm) 0 ∗ semVal ((c : Thread nD τ), sm') 0 ∗ (hb.view.loc (c : Thread nD τ) ↦{fullShare} W))
      ⊢ (iprop(Free sc hq hb c sm fullShare.left W 0 ∗ Free sc hq hb c sm' fullShare.right W 1 ∗ Zrow sc hq c z hsc 0 ∗ Zrow sc hq c z hsc 1) : sProp 𝕄) := by
  have row : ∀ s : Fin 2, (sc.view.loc (c : Thread nD τ) ↦[(sc.access (fullR s)).set \ (slotM sc hq s).view.set]{fullShare} f : sProp 𝕄) = Zrow sc hq c z hsc s := by
    intro s
    refine pointsTo_congr fun i hi => ?_
    obtain ⟨d, rfl⟩ := last_row sc hq s i hi
    apply eq_of_read (F := F) sc.view
    rw [hsc.read_unread, hz]
  iintro ⟨Hf, Hv, Hv', Hs⟩
  ihave Hf' := (whole_split sc c hsc f) $$ Hf
  icases Hf' with ⟨H0, H1⟩
  ihave H0' := (pointsTo_split_subset (slot_sub_full sc hq 0)).1 $$ H0
  icases H0' with ⟨H0, Hz0⟩
  ihave H1' := (pointsTo_split_subset (slot_sub_full sc hq 1)).1 $$ H1
  icases H1' with ⟨H1, Hz1⟩
  ihave Hs' := (pointsTo_share (PosShare.mem_left_op_right fullShare)).1 $$ Hs
  icases Hs' with ⟨Hl, Hr⟩
  ihave Hz0' := (Entails.of_eq (row 0)) $$ Hz0
  ihave Hz1' := (Entails.of_eq (row 1)) $$ Hz1
  isplitl [H0 Hv Hl]
  · unfold Free
    isplitl [H0]; · iexists _; iexact H0
    isplitl [Hv] <;> iassumption
  isplitl [H1 Hv' Hr]
  · unfold Free
    isplitl [H1]; · iexists _; iexact H1
    isplitl [Hv'] <;> iassumption
  isplitl [Hz0'] <;> iassumption

/-- A slot free and its last row are the slot whole, its counter at zero and its share of the source. -/
theorem free_join (hsc : sc.IsWhole) (s : Fin 2) :
    iprop(Free sc hq hb c sm q W s ∗ Zrow sc hq c z hsc s)
      ⊢ (iprop((∃ f, sc.view.loc (c : Thread nD τ) ↦[(sc.access (fullR s)).set]{fullShare} f) ∗ semVal ((c : Thread nD τ), sm) 0 ∗ (hb.view.loc (c : Thread nD τ) ↦{q} W)) : sProp 𝕄) := by
  unfold Free Zrow
  iintro ⟨⟨⟨%f, Hd⟩, Hv, Hs⟩, Hz⟩
  isplitl [Hd Hz]
  · iexists _
    iapply (pointsTo_join_subset (slot_sub_full sc hq s))
    isplitl [Hd] <;> iassumption
  isplitl [Hv] <;> iassumption

/-- Both slots free: the scratch whole again, the counters at zero and the source whole. -/
theorem done_join (hsc : sc.IsWhole) (sm' : SemLoc sig) :
    iprop(Free sc hq hb c sm fullShare.left W 0 ∗ Free sc hq hb c sm' fullShare.right W 1 ∗ Zrow sc hq c z hsc 0 ∗ Zrow sc hq c z hsc 1)
      ⊢ (iprop((∃ f, sc.view.loc (c : Thread nD τ) ↦{fullShare} f) ∗ semVal ((c : Thread nD τ), sm) 0 ∗ semVal ((c : Thread nD τ), sm') 0 ∗ (hb.view.loc (c : Thread nD τ) ↦{fullShare} W)) : sProp 𝕄) := by
  have hj : ∀ f g, iprop((sc.view.loc (c : Thread nD τ) ↦[(sc.access (fullR 0)).set]{fullShare} f) ∗ (sc.view.loc (c : Thread nD τ) ↦[(sc.access (fullR 1)).set]{fullShare} g))
      ⊢ (iprop(∃ f, sc.view.loc (c : Thread nD τ) ↦{fullShare} f) : sProp 𝕄) := by
    intro f g
    refine (pointsTo_join (full_disj sc)).trans ?_
    rw [full_cover sc hsc]
    iintro H; iexists _; iexact H
  iintro ⟨HF0, HF1, HZ0, HZ1⟩
  ihave H0 := (free_join sc hq hb c sm fullShare.left W z hsc 0) $$ [HF0 HZ0]
  · isplitl [HF0] <;> iassumption
  ihave H1 := (free_join sc hq hb c sm' fullShare.right W z hsc 1) $$ [HF1 HZ1]
  · isplitl [HF1] <;> iassumption
  icases H0 with ⟨⟨%f, Hf⟩, Hv, Hl⟩
  icases H1 with ⟨⟨%g, Hg⟩, Hv', Hr⟩
  isplitl [Hf Hg]
  · iapply (hj f g)
    isplitl [Hf] <;> iassumption
  isplitl [Hv]; · iexact Hv
  isplitl [Hv']; · iexact Hv'
  iapply (pointsTo_share (PosShare.mem_left_op_right fullShare)).2
  isplitl [Hl] <;> iassumption

end

end Cert.KernelIdeal.Gen

end
-- ==== Proof.RunGrid.lean ====
/- The offsets, cells and conditions of the body at each grid point, in closed form. -/
module

public import proofs.«01_k».proof.Proof.RunRing
public import proofs.«01_k».proof.Proof.RunSetup
public import Idealize.ShloMosaic.Lib.Routing.Words

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix2 eq_ix3)
open Idealize.ShloMosaic.WordCmp

variable {F : FTy → Type} [FloatOps F]

/-- The slot a point computes from, and the slot it fills for the next. -/
def cur (t : Fin grid0.N) : Fin 2 := ⟨t.val % 2, Nat.mod_lt _ (by decide)⟩
def nxt (t : Fin grid0.N) : Fin 2 := ⟨(t.val + 1) % 2, Nat.mod_lt _ (by decide)⟩

theorem cond1_iff : ∀ t : Fin grid0.N, k0_cond1 (grid0.coords t) = 1#1 ↔ t.val = 0 := by decide +kernel
theorem cond2_iff : ∀ t : Fin grid0.N, k0_cond2 (grid0.coords t) = 1#1 ↔ t.val + 1 < 64 := by decide +kernel
theorem off3_eq : ∀ t : Fin grid0.N, t.val + 1 < 64 → k0_off3 (grid0.coords t) = ![(t.val + 1) * 256] := by decide +kernel
theorem off4_eq : ∀ t : Fin grid0.N, k0_off4 (grid0.coords t) = ![(nxt t).val] := by decide +kernel
theorem off5_eq : ∀ t : Fin grid0.N, k0_off5 (grid0.coords t) = ![(nxt t).val, 0, 0] := by decide +kernel
theorem off7_eq : ∀ t : Fin grid0.N, k0_off7 (grid0.coords t) = ![(nxt t).val] := by decide +kernel
theorem off8_eq : ∀ t : Fin grid0.N, k0_off8 (grid0.coords t) = ![(nxt t).val, 0, 0] := by decide +kernel
theorem off10_eq : ∀ t : Fin grid0.N, k0_off10 (grid0.coords t) = ![t.val * 256] := by decide +kernel
theorem off11_eq : ∀ t : Fin grid0.N, k0_off11 (grid0.coords t) = ![(cur t).val] := by decide +kernel
theorem off12_eq : ∀ t : Fin grid0.N, k0_off12 (grid0.coords t) = ![(cur t).val, 0, 0] := by decide +kernel
theorem off14_eq : ∀ t : Fin grid0.N, k0_off14 (grid0.coords t) = ![(cur t).val] := by decide +kernel
theorem off15_eq : ∀ t : Fin grid0.N, k0_off15 (grid0.coords t) = ![(cur t).val, 0, 0] := by decide +kernel
theorem off17_eq : ∀ t : Fin grid0.N, k0_off17 (grid0.coords t) = ![t.val * 256] := by decide +kernel
theorem off18_eq : ∀ t : Fin grid0.N, k0_off18 (grid0.coords t) = ![(cur t).val, 0, 0] := by decide +kernel
theorem off19_eq : ∀ t : Fin grid0.N, k0_off19 (grid0.coords t) = ![(cur t).val, 0, 0] := by decide +kernel

/-- The counters of the two rings, slot by slot. -/
def cellX : Fin 2 → SemLoc sig := fun s => (![SemLoc.dma 18, SemLoc.dma 19] : Fin 2 → SemLoc sig) s
def cellC : Fin 2 → SemLoc sig := fun s => (![SemLoc.dma 20, SemLoc.dma 21] : Fin 2 → SemLoc sig) s

theorem cellX_eq {o : Fin 1 → ℕ} (s : Fin 2) (h : o = ![s.val]) (inb) :
    SemLoc.dma ((cc0_scratch2.slice (Rect.unit (s := S2) o S1.size inb)).squeeze S_ squeezes_S1_S_).sem = cellX s := by
  subst h; revert inb; revert s; decide +kernel
theorem cellC_eq {o : Fin 1 → ℕ} (s : Fin 2) (h : o = ![s.val]) (inb) :
    SemLoc.dma ((cc0_scratch3.slice (Rect.unit (s := S2) o S1.size inb)).squeeze S_ squeezes_S1_S_).sem = cellC s := by
  subst h; revert inb; revert s; decide +kernel

/-- The share of the source that travels with slot `s`. -/
def qs : Fin 2 → PosShare TreeShare := fun s => (![fullShare.left, fullShare.right] : Fin 2 → PosShare TreeShare) s

/-- The table's word at index `n`. -/
def word (tb : S16385.Idx → BitVec 32) (n : ℕ) (h : n < 16385) : BitVec 32 := tb (ix1 ⟨n, h⟩)

theorem word_eq (tb : S16385.Idx → BitVec 32) {o : Fin 1 → ℕ} (n : ℕ) (hn : n < 16385) (h : o = ![n]) (inb) (p) :
    View.readAt (Elt F) tbM.view (Rect.unit (s := S16385) o S1.size inb).toLoadRect tb (Shape.Idx.first p) = word tb n hn := by
  subst h
  show tb _ = tb _
  congr 1; funext a; apply Fin.ext; match a with | ⟨0, _⟩ => exact Nat.add_zero _

/-! ## Where a window starts -/

/-- The quotient by eight, rounded down, as the body computes it. -/
def fdiv8 (v : BitVec 32) : BitVec 32 :=
  Scalar.select (Scalar.andi (Scalar.cmpi .ne (Scalar.subi (Scalar.extui (Scalar.cmpi .sgt v 0#32)) (Scalar.extui (Scalar.cmpi .slt v 0#32)))
      (Scalar.subi (Scalar.extui (Scalar.cmpi .sgt 8#32 0#32)) (Scalar.extui (Scalar.cmpi .slt 8#32 0#32)))) (Scalar.cmpi .ne (Scalar.remsi v 8#32) 0#32))
    (Scalar.subi (Scalar.divsi v 8#32) 1#32) (Scalar.divsi v 8#32)
/-- The start of a window whose first segment begins at row `v`. -/
def st8 (v : BitVec 32) : BitVec 32 := Scalar.minsi (Scalar.muli (fdiv8 v) 8#32) 87352#32

theorem fdiv8_word {n : ℕ} (hn : n ≤ 89927) : fdiv8 (BitVec.ofNat 32 n) = BitVec.ofNat 32 (n / 8) := by
  rcases Nat.eq_zero_or_pos n with rfl | h0
  · decide
  unfold fdiv8 Scalar.divsi Scalar.remsi Scalar.cmpi Scalar.extui Scalar.subi Scalar.andi
  rw [show (8#32 : BitVec 32) = BitVec.ofNat 32 8 from rfl, show (0#32 : BitVec 32) = BitVec.ofNat 32 0 from rfl,
    Routing.divsi_word _ (by omega) (by omega) (by omega), cmpi_sgt_ofNat (w := 32) (by omega) (by omega), cmpi_slt_ofNat (w := 32) (by omega) (by omega)]
  have e1 : decide (0 < n) = true := by simp [h0]
  have e2 : decide (n < 0) = false := by simp
  rw [e1, e2]
  have : ∀ y : BitVec 1, IntOp.andi (IntOp.cmpi .ne (IntOp.subi ((BitVec.ofBool true).setWidth 32) ((BitVec.ofBool false).setWidth 32))
      (IntOp.subi ((IntOp.cmpi .sgt (BitVec.ofNat 32 8) (BitVec.ofNat 32 0)).setWidth 32) ((IntOp.cmpi .slt (BitVec.ofNat 32 8) (BitVec.ofNat 32 0)).setWidth 32))) y = 0#1 := by decide
  rw [this]
  rfl

theorem st8_word {n : ℕ} (hn : n ≤ 89927) : st8 (BitVec.ofNat 32 n) = BitVec.ofNat 32 (min (n / 8 * 8) 87352) := by
  unfold st8
  rw [fdiv8_word hn]
  have e : Scalar.muli (BitVec.ofNat 32 (n / 8)) 8#32 = BitVec.ofNat 32 (n / 8 * 8) := by
    show BitVec.ofNat 32 (n / 8) * BitVec.ofNat 32 8 = _
    rw [← BitVec.ofNat_mul]
  rw [e]
  show IntOp.minsi (BitVec.ofNat 32 (n / 8 * 8)) (BitVec.ofNat 32 87352) = _
  unfold IntOp.minsi
  rw [BitVec.slt_eq_decide, toInt_ofNat_of_lt (w := 32) (by omega), toInt_ofNat_of_lt (w := 32) (by omega)]
  by_cases h : n / 8 * 8 < 87352
  · rw [if_pos (by simpa using (by exact_mod_cast h)), min_eq_left (by omega)]
  · rw [if_neg (by simpa using (by exact_mod_cast (not_lt.mp h))), min_eq_right (by omega)]

/-- The start as a row of the source. -/
def stF (v : BitVec 32) : Fin 87353 := ⟨min (v.toNat / 8 * 8) 87352, by omega⟩

theorem st8_toNat {v : BitVec 32} (hv : v.toNat ≤ 89927) : (st8 v).toNat = (stF v).val := by
  have e : v = BitVec.ofNat 32 v.toNat := (BitVec.ofNat_toNat 32 v).symm ▸ (BitVec.setWidth_eq v).symm
  conv_lhs => rw [e, st8_word hv]
  exact toNat_ofNat_of_lt (by omega)

theorem off1_eq {v : BitVec 32} (hv : v.toNat ≤ 89927) : k0_off1 v = ![(stF v).val, 0] := by
  show ![(st8 v).toNat, 0] = _; rw [st8_toNat hv]
theorem off2_eq {v : BitVec 32} (hv : v.toNat ≤ 89927) : k0_off2 v = ![(stF v).val, 0] := by
  show ![(st8 v).toNat, 0] = _; rw [st8_toNat hv]
theorem off6_eq {v : BitVec 32} (hv : v.toNat ≤ 89927) : k0_off6 v = ![(stF v).val, 0] := by
  show ![(st8 v).toNat, 0] = _; rw [st8_toNat hv]
theorem off9_eq {v : BitVec 32} (hv : v.toNat ≤ 89927) : k0_off9 v = ![(stF v).val, 0] := by
  show ![(st8 v).toNat, 0] = _; rw [st8_toNat hv]
theorem off13_eq {v : BitVec 32} (hv : v.toNat ≤ 89927) : k0_off13 v = ![(stF v).val, 0] := by
  show ![(st8 v).toNat, 0] = _; rw [st8_toNat hv]
theorem off16_eq {v : BitVec 32} (hv : v.toNat ≤ 89927) : k0_off16 v = ![(stF v).val, 0] := by
  show ![(st8 v).toNat, 0] = _; rw [st8_toNat hv]

theorem chk1_of {v : BitVec 32} (i : grid0.Coords) (hv : v.toNat ≤ 89927) : k0_chk1 i v :=
  ⟨fun _ => by rw [off1_eq hv]; exact inb_sr (stF v), fun _ => by rw [off2_eq hv]; exact inb_sr (stF v)⟩
theorem chk2_of {v : BitVec 32} (i : grid0.Coords) (hv : v.toNat ≤ 89927) : k0_chk2 i v :=
  ⟨fun _ => by rw [off6_eq hv]; exact inb_sr (stF v), fun _ => by rw [off9_eq hv]; exact inb_sr (stF v)⟩
theorem chk3_of {v : BitVec 32} (hv : v.toNat ≤ 89927) : k0_chk3 v :=
  ⟨by rw [off13_eq hv]; exact inb_sr (stF v), by rw [off16_eq hv]; exact inb_sr (stF v)⟩

end Cert.KernelIdeal.Gen

end
-- ==== Proof.RunBody.lean ====
/- One grid point of the body, run over the pieces of both rings that it holds when it begins. -/
module

public import proofs.«01_k».proof.Proof.RunGrid
public import proofs.«01_k».proof.Proof.Gen.KernelIdeal.Skeleton
public import proofs.«01_k».proof.Proof.RunSetup
public import Idealize.ShloMosaic.Lib.Routing.Words
public import Idealize.ShloMosaic.Lib.VecWindow
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix2 eq_ix3)
open Idealize.ShloMosaic.WordCmp

variable {F : FTy → Type} [FloatOps F]

local notation "𝕄" => MT nD τ sig Unit (Elt F) ℕ (Pipeline.UD sig nD τ) ℕ

/-! ## A slot as the body loads it, and the zero rows as the first point stores them -/

/-- A returned value bound is the continuation at it. -/
theorem ret_bind_eq {E : Type → Type} {α β : Type} (a : α) (k : α → Prog E β) : (Prog.ret a).bind k = k a := rfl

/-- Binding, in the notation programs are printed in. -/
theorem bind_eq {E : Type → Type} {α β : Type} (p : Prog E α) (k : α → Prog E β) : p.bind k = (p >>= k) := rfl

/-- What a slot loads once the rows from `a` have landed. -/
def slotV {D : ℕ} (a : Fin 87353) (X : (Sr D).Idx → F .f32) (z : F .f32) : (Fu D).Idx → F .f32 := fun x => win a X z (ix3 (0 : Fin 2) (x 1) (x 2))

theorem read_held {D : ℕ} (sc : Memref sig .tc .vmem (Sc D) .f32) (X : (Sr D).Idx → F .f32) (z : F .f32) (hsc : sc.IsWhole) (s : Fin 2) (a : Fin 87353) :
    (sc.access (fullR s)).read (Elt F) (hsc.unread (win a X z)) = slotV a X z := by
  have e : ∀ x : (Fu D).Idx, (sc.access (fullR s)).read (Elt F) (hsc.unread (win a X z)) x = slotV a X z x := by
    intro x
    obtain ⟨r, d, rfl⟩ : ∃ (r : Fin 2576) (d : Fin D), x = ix3 (0 : Fin 1) r d := ⟨x 1, x 2, (eq_ix3 x).trans (congrArg (fun u => ix3 u _ _) (Fin.ext (by have := (x 0).isLt; simp at this ⊢)))⟩
    show sc.view.read (Elt F) _ ((fullR s).emb _) = _
    rw [hsc.read_unread, emb_rows (le_refl _)]
    rfl
  exact funext e

theorem load_held {D : ℕ} (sc : Memref sig .tc .vmem (Sc D) .f32) (hb : Memref sig .tc .hbm (Sr D) .f32) (c : Dev nD) (W : hb.view.ty.Contents (Elt F)) (z : F .f32)
    {α : Type} {Q : α → sProp 𝕄} (hsc : sc.IsWhole) (s : Fin 2) (a : Fin 87353)
    {o : Fin 3 → ℕ} (h : o = ![s.val, 0, 0]) (inb : ∀ b, o b + (Fu D).size b ≤ (Sc D).size b) (hl)
    (k : ((Fu D).Idx → F .f32) → Prog (TpuEff nD τ sig (Elt F) Λ₀ .tc) α) :
    Held sc hb c W z hsc s a
      ⊢ iprop((Held sc hb c W z hsc s a -∗ wp frame (wpE (defs₀ (F := F)) Variants.none (c : Thread nD τ) none) Set.univ (k (slotV a (hb.view.read (Elt F) W) z)) Q)
        -∗ wp frame (wpE (defs₀ (F := F)) Variants.none (c : Thread nD τ) none) Set.univ (.op (.load sc (Rect.unit (s := Sc D) o (Fu D).size inb).toLoadRect hl) k) Q) := by
  subst h
  have h := wp_load_rect (defs := defs₀ (F := F)) (Q := Q) Variants.none (c : Thread nD τ) none (Γ := .empty) Set.univ (m := sc) (r := fullR s) (hl := hl) (k := k)
    (q := fullShare) (f := hsc.unread (win a (hb.view.read (Elt F) W) z)) (Finset.Subset.refl _)
  rw [read_held] at h
  exact h

/-- After the store of zeros the last row of each slot reads zero. -/
theorem zeroed {D : ℕ} (v : View sig .tc .vmem (Sc D) .f32) (f : v.ty.Contents (Elt F)) (z : F .f32) (inb)
    (w : (Rect.unit (s := Sc D) ![0, 2575, 0] ![2, 1, D] inb).shape.Idx → F .f32) (hw : ∀ x, w x = z) (s : Fin 2) (d : Fin D) :
    v.read (Elt F) (v.writes (Elt F) f [⟨Rect.unit (s := Sc D) ![0, 2575, 0] ![2, 1, D] inb, w⟩]) (ix3 s ⟨2575, by omega⟩ d) = z := by
  rw [View.read_writes_cons_unit_of_mem v f inb w [] _ (ix3 s (0 : Fin 1) d) rfl]
  · exact hw _
  · intro a
    match a with
    | ⟨0, _⟩ => exact (Nat.zero_add _).symm
    | ⟨1, _⟩ => rfl
    | ⟨2, _⟩ => exact (Nat.zero_add _).symm

/-! ## The two rings' pieces -/

abbrev sqX : (Sl 64).Squeezes (Wn 64) := squeezes_S1x2575x64_S2575x64
abbrev sqC : (Sl 2).Squeezes (Wn 2) := squeezes_S1x2575x2_S2575x2
/-- The zero the last rows are filled with. -/
abbrev z0 : F .f32 := Scalar.ofBits .f32 0x00000000#32

variable (c : Dev nD) (WX : BufOf (F := F) c hbX) (WC : BufOf (F := F) c hbC) (tb : S16385.Idx → BitVec 32)

/-- Both rings' slot `s` free. -/
def free2 (s : Fin 2) : sProp 𝕄 := iprop(Free scX sqX hbX c (cellX s) (qs s) WX s ∗ Free scC sqC hbC c (cellC s) (qs s) WC s)
/-- Both rings' slot `s` being filled from row `a`. -/
def fly2 (s : Fin 2) (a : Fin 87353) : sProp 𝕄 :=
  iprop(Fly scX sqX hbX c (cellX s) (qs s) WX z0 (Memref.isWhole_whole _) s a ∗ Fly scC sqC hbC c (cellC s) (qs s) WC z0 (Memref.isWhole_whole _) s a)
/-- Both rings' zero row of slot `s`. -/
def zrow2 (s : Fin 2) : sProp 𝕄 :=
  iprop(Zrow scX sqX c (z0 (F := F)) (Memref.isWhole_whole _) s ∗ Zrow scC sqC c (z0 (F := F)) (Memref.isWhole_whole _) s)

/-- The row the window of point `t` starts from. -/
def st (n : ℕ) (h : n < 16385) : Fin 87353 := stF (word tb n h)

/-- A ring's scratch whole. -/
abbrev scXPt (f : BufOf (F := F) c scX) : sProp 𝕄 := scX.view.loc (c : Thread nD τ) ↦{fullShare} f
abbrev scCPt (f : BufOf (F := F) c scC) : sProp 𝕄 := scC.view.loc (c : Thread nD τ) ↦{fullShare} f

/-- The counters at zero and the sources whole. -/
def rest0 : sProp 𝕄 :=
  iprop(semVal ((c : Thread nD τ), cellX 0) 0 ∗ semVal ((c : Thread nD τ), cellX 1) 0 ∗ semVal ((c : Thread nD τ), cellC 0) 0 ∗ semVal ((c : Thread nD τ), cellC 1) 0
    ∗ (hbX.view.loc (c : Thread nD τ) ↦{fullShare} WX) ∗ (hbC.view.loc (c : Thread nD τ) ↦{fullShare} WC))

/-- The tile the body stores, from the two slots, the blocks of the twelve windows and the window's start. -/
def outV (a : BitVec 32) (vx : Vec F S1x2576x64 .f32) (vc : Vec F S1x2576x2 .f32) (x0 x1 : Vec F S1x1x256 .f32) (x2 x3 : Vec F S1x256x1 .f32)
    (x4 : Vec F S64x64 .f32) (x5 : Vec F S1x64 .f32) (x6 : Vec F S9x64 .f32) (x7 : Vec F S64x90 .f32) (x8 : Vec F S90x9 .f32) (x9 : Vec F S1x9 .f32) (x10 : Vec F S9x9 .f32) (x11 : Vec F S1x9 .f32) :
    FVec F S256x9 .f32 :=
  k0_pay1 (k0_pay15 (k0_pay8 x0) (k0_pay11 a) (k0_pay12 a (k0_pay8 x0) (k0_pay9 x1)) (k0_pay13 a (k0_pay10 x2) x3)
    (k0_pay14 (k0_pay4 vx) (k0_pay6 vc) (k0_pay7 vc) x6 x4 x5) x7 x8) x9 x10 x11

theorem out_congr {a a' : BitVec 32} {vx : Vec F S1x2576x64 .f32} {vc : Vec F S1x2576x2 .f32} {x0 x1 y0 y1 : Vec F S1x1x256 .f32} {x2 x3 y2 y3 : Vec F S1x256x1 .f32}
    {x4 y4 : Vec F S64x64 .f32} {x5 y5 : Vec F S1x64 .f32} {x6 y6 : Vec F S9x64 .f32} {x7 y7 : Vec F S64x90 .f32} {x8 y8 : Vec F S90x9 .f32} {x9 y9 : Vec F S1x9 .f32}
    {x10 y10 : Vec F S9x9 .f32} {x11 y11 : Vec F S1x9 .f32} (ha : a = a') (h0 : y0 = x0) (h1 : y1 = x1) (h2 : y2 = x2) (h3 : y3 = x3) (h4 : y4 = x4) (h5 : y5 = x5)
    (h6 : y6 = x6) (h7 : y7 = x7) (h8 : y8 = x8) (h9 : y9 = x9) (h10 : y10 = x10) (h11 : y11 = x11) :
    k0_pay1 (k0_pay15 (k0_pay8 y0) (k0_pay11 a) (k0_pay12 a (k0_pay8 y0) (k0_pay9 y1)) (k0_pay13 a (k0_pay10 y2) y3)
    (k0_pay14 (k0_pay4 vx) (k0_pay6 vc) (k0_pay7 vc) y6 y4 y5) y7 y8) y9 y10 y11 = outV a' vx vc x0 x1 x2 x3 x4 x5 x6 x7 x8 x9 x10 x11 := by
  subst ha h0 h1 h2 h3 h4 h5 h6 h7 h8 h9 h10 h11; rfl

section Parts

variable (arg4 : Memref sig .tc .vmem S1x1x256 .f32) (harg4 : arg4.IsWhole) (arg5 : Memref sig .tc .vmem S1x1x256 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S9x64 .f32) (harg10 : arg10.IsWhole) (arg11 : Memref sig .tc .vmem S64x90 .f32) (harg11 : arg11.IsWhole) (arg12 : Memref sig .tc .vmem S90x9 .f32) (harg12 : arg12.IsWhole) (arg13 : Memref sig .tc .vmem S1x9 .f32) (harg13 : arg13.IsWhole) (arg14 : Memref sig .tc .vmem S9x9 .f32) (harg14 : arg14.IsWhole) (arg15 : Memref sig .tc .vmem S1x9 .f32) (harg15 : arg15.IsWhole) (arg16 : Memref sig .tc .vmem S256x9 .f32) (harg16 : arg16.IsWhole)
variable (t : Fin grid0.N) (hb : ∀ j, (tb j).toNat ≤ 89927)

include hb in
/-- Any word read off the table is at most the number of rows. -/
theorem read_le {o : Fin 1 → ℕ} (inb) (p) :
    BitVec.toNat (View.readAt (Elt F) tbM.view (Rect.unit (s := S16385) o S1.size inb).toLoadRect tb (Shape.Idx.first p)) ≤ 89927 := hb _

include hb in
/-- The row a copy starts from, as a word read off the table gives it. -/
theorem read_st {o : Fin 1 → ℕ} (n : ℕ) (hn : n < 16385) (h : o = ![n]) (inb) (p) {f : BitVec 32 → Fin 2 → ℕ}
    (hf : ∀ v : BitVec 32, v.toNat ≤ 89927 → f v = ![(stF v).val, 0]) :
    f (View.readAt (Elt F) tbM.view (Rect.unit (s := S16385) o S1.size inb).toLoadRect tb (Shape.Idx.first p)) = ![(st tb n hn).val, 0] := by
  rw [hf _ (read_le (F := F) tb hb inb p), word_eq (F := F) tb n hn h]
  rfl

include hb

/-- The part that starts copies, at the last point: nothing to start. -/
theorem part3_last (h1 : ¬ t.val = 0) (h2 : ¬ t.val + 1 < 64)
    {Q : ((_ : BitVec 32) ×' (v19 : Elt F .i32) ×' (_ : k0_chk3 v19) ×' BitVec 32) → sProp 𝕄} (R : sProp 𝕄) (h : ∀ r, iprop(tbPt c tb ∗ R) ⊢ Q r) :
    iprop(tbPt c tb ∗ R) ⊢ wp frame (wpE (defs₀ (F := F)) Variants.none (c : Thread nD τ) none) Set.univ
      (k0_part3 (F := F) (grid0.coords t) tbM (Memref.isWhole_whole _) hbX (Memref.isWhole_whole _) hbC (Memref.isWhole_whole _) arg4 harg4 arg5 harg5 arg6 harg6 arg7 harg7 arg8 harg8 arg9 harg9 arg10 harg10 arg11 harg11 arg12 harg12 arg13 harg13 arg14 harg14 arg15 harg15 arg16 harg16 scX (Memref.isWhole_whole _) scC (Memref.isWhole_whole _) cc0_scratch2 cc0_scratch3) Q := by
  have hc1 : ¬ k0_cond1 (grid0.coords t) = 1#1 := fun e => h1 ((cond1_iff t).1 e)
  have hc2 : ¬ k0_cond2 (grid0.coords t) = 1#1 := fun e => h2 ((cond2_iff t).1 e)
  simp only [k0_part3_eq_skeleton]
  unfold k0_part3_skel
  iintro ⟨HT, HR⟩
  sl_exec
  iapply (wp_assume Variants.none (c : Thread nD τ) none Set.univ (chk3_of (read_le (F := F) tb hb _ _)))
  sl_exec
  sl_step
  iapply h
  isplitl [HT] <;> iassumption

theorem part3_mid (h1 : ¬ t.val = 0) (h2 : t.val + 1 < 64)
    {Q : ((_ : BitVec 32) ×' (v19 : Elt F .i32) ×' (_ : k0_chk3 v19) ×' BitVec 32) → sProp 𝕄} (R : sProp 𝕄)
    (h : ∀ r, iprop(tbPt c tb ∗ fly2 c WX WC (nxt t) (st tb ((t.val + 1) * 256) (by omega)) ∗ R) ⊢ Q r) :
    iprop(tbPt c tb ∗ free2 c WX WC (nxt t) ∗ R) ⊢ wp frame (wpE (defs₀ (F := F)) Variants.none (c : Thread nD τ) none) Set.univ
      (k0_part3 (F := F) (grid0.coords t) tbM (Memref.isWhole_whole _) hbX (Memref.isWhole_whole _) hbC (Memref.isWhole_whole _) arg4 harg4 arg5 harg5 arg6 harg6 arg7 harg7 arg8 harg8 arg9 harg9 arg10 harg10 arg11 harg11 arg12 harg12 arg13 harg13 arg14 harg14 arg15 harg15 arg16 harg16 scX (Memref.isWhole_whole _) scC (Memref.isWhole_whole _) cc0_scratch2 cc0_scratch3) Q := by
  have hc1 : ¬ k0_cond1 (grid0.coords t) = 1#1 := fun e => h1 ((cond1_iff t).1 e)
  have hc2 : k0_cond2 (grid0.coords t) = 1#1 := (cond2_iff t).2 h2
  simp only [k0_part3_eq_skeleton]
  unfold k0_part3_skel
  simp only [k0_part2_eq_skeleton]
  unfold k0_part2_skel
  iintro ⟨HT, HF, HR⟩
  unfold free2
  icases HF with ⟨HX, HC⟩
  sl_exec
  iapply (wp_assume Variants.none (c : Thread nD τ) none Set.univ (chk2_of _ (read_le (F := F) tb hb _ _)))
  sl_exec
  iapply (start_fly scX sqX hbX c (cellX (nxt t)) (qs (nxt t)) WX z0 (Memref.isWhole_whole _) (nxt t) (st tb ((t.val + 1) * 256) (by omega))
    (by decide) (off5_eq t) _ _ (read_st (F := F) tb hb ((t.val + 1) * 256) (by omega) (off3_eq t h2) _ _ (f := k0_off6) fun v hv => off6_eq hv) _ _
    (cellX_eq _ (off4_eq t) _) _ _ _ _) $$ HX
  iintro HX
  iapply (start_fly scC sqC hbC c (cellC (nxt t)) (qs (nxt t)) WC z0 (Memref.isWhole_whole _) (nxt t) (st tb ((t.val + 1) * 256) (by omega))
    (by decide) (off8_eq t) _ _ (read_st (F := F) tb hb ((t.val + 1) * 256) (by omega) (off3_eq t h2) _ _ (f := k0_off9) fun v hv => off9_eq hv) _ _
    (cellC_eq _ (off7_eq t) _) _ _ _ _) $$ HC
  iintro HC
  simp only [ret_bind_eq]
  sl_exec
  iapply (wp_assume Variants.none (c : Thread nD τ) none Set.univ (chk3_of (read_le (F := F) tb hb _ _)))
  sl_exec
  sl_step
  iapply h
  isplitl [HT]; · iexact HT
  isplitl [HX HC]
  · unfold fly2; isplitl [HX] <;> iassumption
  iassumption

theorem part3_first (h1 : t.val = 0)
    {Q : ((_ : BitVec 32) ×' (v19 : Elt F .i32) ×' (_ : k0_chk3 v19) ×' BitVec 32) → sProp 𝕄} (R : sProp 𝕄)
    (h : ∀ r, iprop(tbPt c tb ∗ fly2 c WX WC 0 (st tb 0 (by decide)) ∗ fly2 c WX WC 1 (st tb 256 (by decide)) ∗ zrow2 (F := F) c 0 ∗ zrow2 (F := F) c 1 ∗ R) ⊢ Q r) :
    iprop(tbPt c tb ∗ (∃ f, scXPt c f) ∗ (∃ f, scCPt c f) ∗ rest0 c WX WC ∗ R) ⊢ wp frame (wpE (defs₀ (F := F)) Variants.none (c : Thread nD τ) none) Set.univ
      (k0_part3 (F := F) (grid0.coords t) tbM (Memref.isWhole_whole _) hbX (Memref.isWhole_whole _) hbC (Memref.isWhole_whole _) arg4 harg4 arg5 harg5 arg6 harg6 arg7 harg7 arg8 harg8 arg9 harg9 arg10 harg10 arg11 harg11 arg12 harg12 arg13 harg13 arg14 harg14 arg15 harg15 arg16 harg16 scX (Memref.isWhole_whole _) scC (Memref.isWhole_whole _) cc0_scratch2 cc0_scratch3) Q := by
  have hc1 : k0_cond1 (grid0.coords t) = 1#1 := (cond1_iff t).2 h1
  have h2 : t.val + 1 < 64 := by omega
  have hn : nxt t = 1 := Fin.ext (by show (t.val + 1) % 2 = 1; omega)
  have hc2 : k0_cond2 (grid0.coords t) = 1#1 := (cond2_iff t).2 h2
  simp only [k0_part3_eq_skeleton]
  unfold k0_part3_skel
  simp only [k0_part1_eq_skeleton, k0_part2_eq_skeleton]
  unfold k0_part1_skel k0_part2_skel
  iintro ⟨HT, ⟨%fX, HX⟩, ⟨%fC, HC⟩, HS, HR⟩
  sl_exec
  iapply (wp_assume Variants.none (c : Thread nD τ) none Set.univ (chk1_of _ (read_le (F := F) tb hb _ _)))
  sl_exec
  unfold rest0
  icases HS with ⟨H18, H19, H20, H21, HhX, HhC⟩
  ihave HX' := (init_split scX sqX hbX c (cellX 0) WX z0 (Memref.isWhole_whole _) _ (cellX 1)
    (fun s d => zeroed scX.view fX z0 _ (k0_pay2 (F := F)) (fun _ => rfl) s d)) $$ [HX H18 H19 HhX]
  · isplitl [HX]; · iexact HX
    isplitl [H18]; · iexact H18
    isplitl [H19] <;> iassumption
  icases HX' with ⟨HX0, HX1, HzX0, HzX1⟩
  ihave HC' := (init_split scC sqC hbC c (cellC 0) WC z0 (Memref.isWhole_whole _) _ (cellC 1)
    (fun s d => zeroed scC.view fC z0 _ (k0_pay3 (F := F)) (fun _ => rfl) s d)) $$ [HC H20 H21 HhC]
  · isplitl [HC]; · iexact HC
    isplitl [H20]; · iexact H20
    isplitl [H21] <;> iassumption
  icases HC' with ⟨HC0, HC1, HzC0, HzC1⟩
  iapply (start_fly scX sqX hbX c (cellX 0) fullShare.left WX z0 (Memref.isWhole_whole _) 0 (st tb 0 (by decide))
    (by decide) rfl _ _ (read_st (F := F) tb hb 0 (by omega) rfl _ _ (f := k0_off1) fun v hv => off1_eq hv) _ _
    (cellX_eq 0 rfl _) _ _ _ _) $$ HX0
  iintro HX0
  iapply (start_fly scC sqC hbC c (cellC 0) fullShare.left WC z0 (Memref.isWhole_whole _) 0 (st tb 0 (by decide))
    (by decide) rfl _ _ (read_st (F := F) tb hb 0 (by omega) rfl _ _ (f := k0_off2) fun v hv => off2_eq hv) _ _
    (cellC_eq 0 rfl _) _ _ _ _) $$ HC0
  iintro HC0
  simp only [ret_bind_eq]
  sl_exec
  iapply (wp_assume Variants.none (c : Thread nD τ) none Set.univ (chk2_of _ (read_le (F := F) tb hb _ _)))
  iapply (start_fly scX sqX hbX c (cellX 1) fullShare.right WX z0 (Memref.isWhole_whole _) 1 (st tb 256 (by decide))
    (by decide) ((off5_eq t).trans (by rw [hn])) _ _ (read_st (F := F) tb hb 256 (by omega) ((off3_eq t h2).trans (by rw [h1])) _ _ (f := k0_off6) fun v hv => off6_eq hv) _ _
    (cellX_eq 1 ((off4_eq t).trans (by rw [hn])) _) _ _ _ _) $$ HX1
  iintro HX1
  iapply (start_fly scC sqC hbC c (cellC 1) fullShare.right WC z0 (Memref.isWhole_whole _) 1 (st tb 256 (by decide))
    (by decide) ((off8_eq t).trans (by rw [hn])) _ _ (read_st (F := F) tb hb 256 (by omega) ((off3_eq t h2).trans (by rw [h1])) _ _ (f := k0_off9) fun v hv => off9_eq hv) _ _
    (cellC_eq 1 ((off7_eq t).trans (by rw [hn])) _) _ _ _ _) $$ HC1
  iintro HC1
  simp only [ret_bind_eq]
  sl_exec
  iapply (wp_assume Variants.none (c : Thread nD τ) none Set.univ (chk3_of (read_le (F := F) tb hb _ _)))
  sl_exec
  sl_step
  iapply h
  isplitl [HT]; · iexact HT
  isplitl [HX0 HC0]
  · unfold fly2; isplitl [HX0]; · iexact HX0
    iexact HC0
  isplitl [HX1 HC1]
  · unfold fly2; isplitl [HX1]; · iexact HX1
    iexact HC1
  isplitl [HzX0 HzC0]
  · unfold zrow2; isplitl [HzX0] <;> iassumption
  isplitl [HzX1 HzC1]
  · unfold zrow2; isplitl [HzX1] <;> iassumption
  iassumption

set_option maxHeartbeats 400000 in
/-- The body, from what its first part leaves: the copies into slot `cur t` awaited, the tile computed and stored. -/
theorem body_run {Q : PUnit → sProp 𝕄} (P R : sProp 𝕄)
    (h3 : ∀ Q' : ((_ : BitVec 32) ×' (v19 : Elt F .i32) ×' (_ : k0_chk3 v19) ×' BitVec 32) → sProp 𝕄,
      (∀ r, iprop(tbPt c tb ∗ fly2 c WX WC (cur t) (st tb (t.val * 256) (by have := t.isLt; have : grid0.N = 64 := rfl; omega)) ∗ zrow2 (F := F) c (cur t) ∗ R) ⊢ Q' r) →
      P ⊢ wp frame (wpE (defs₀ (F := F)) Variants.none (c : Thread nD τ) none) Set.univ
      (k0_part3 (F := F) (grid0.coords t) tbM (Memref.isWhole_whole _) hbX (Memref.isWhole_whole _) hbC (Memref.isWhole_whole _) arg4 harg4 arg5 harg5 arg6 harg6 arg7 harg7 arg8 harg8 arg9 harg9 arg10 harg10 arg11 harg11 arg12 harg12 arg13 harg13 arg14 harg14 arg15 harg15 arg16 harg16 scX (Memref.isWhole_whole _) scC (Memref.isWhole_whole _) cc0_scratch2 cc0_scratch3) Q')
    (x0 x1 : Vec F S1x1x256 .f32) (x2 x3 : Vec F S1x256x1 .f32)
    (x4 : Vec F S64x64 .f32) (x5 : Vec F S1x64 .f32) (x6 : Vec F S9x64 .f32) (x7 : Vec F S64x90 .f32) (x8 : Vec F S90x9 .f32) (x9 : Vec F S1x9 .f32) (x10 : Vec F S9x9 .f32) (x11 : Vec F S1x9 .f32)
    (R' : sProp 𝕄) (Ws : Waits sig Unit)
    (hR : R ⊢ iprop(owes (c : Thread nD τ) 0 Ws ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ (∃ d, owns (c : Thread nD τ) arg16 fullShare d) ∗ R'))
    (hQ : iprop(tbPt c tb ∗ free2 c WX WC (cur t) ∗ zrow2 (F := F) c (cur t) ∗ (∃ Ws', owes (c : Thread nD τ) 0 Ws') ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11
      ∗ owns (c : Thread nD τ) arg16 fullShare (outV (st8 (word tb (t.val * 256) (by have := t.isLt; have : grid0.N = 64 := rfl; omega)))
          (slotV (st tb (t.val * 256) (by have := t.isLt; have : grid0.N = 64 := rfl; omega)) (hbX.view.read (Elt F) WX) z0)
          (slotV (st tb (t.val * 256) (by have := t.isLt; have : grid0.N = 64 := rfl; omega)) (hbC.view.read (Elt F) WC) z0) x0 x1 x2 x3 x4 x5 x6 x7 x8 x9 x10 x11) ∗ R') ⊢ Q ⟨⟩) :
    P ⊢ wp frame (wpE (defs₀ (F := F)) Variants.none (c : Thread nD τ) none) Set.univ
      (cc0__body (F := F) (grid0.coords t) tbM (Memref.isWhole_whole _) hbX (Memref.isWhole_whole _) hbC (Memref.isWhole_whole _) arg4 harg4 arg5 harg5 arg6 harg6 arg7 harg7 arg8 harg8 arg9 harg9 arg10 harg10 arg11 harg11 arg12 harg12 arg13 harg13 arg14 harg14 arg15 harg15 arg16 harg16 scX (Memref.isWhole_whole _) scC (Memref.isWhole_whole _) cc0_scratch2 cc0_scratch3) Q := by
  simp only [cc0__body_eq_skeleton]
  unfold cc0__body_skel
  apply exec_bind
  apply h3
  intro r
  obtain ⟨a0, v19, hw, v36⟩ := r
  simp only [k0_part4_eq_skeleton, k0_part5_eq_skeleton, k0_part6_eq_skeleton, k0_part7_eq_skeleton]
  unfold k0_part4_skel k0_part5_skel k0_part6_skel k0_part7_skel
  iintro ⟨HT, HF, HZ, HR⟩
  ihave HR' := hR $$ HR
  icases HR' with ⟨HW, H0, H1, H2, H3, H4, H5, H6, H7, H8, H9, H10, H11, ⟨%d, H12⟩, HR⟩
  unfold owns
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  icases H8 with ⟨%f8, %hf8, H8⟩
  icases H9 with ⟨%f9, %hf9, H9⟩
  icases H10 with ⟨%f10, %hf10, H10⟩
  icases H11 with ⟨%f11, %hf11, H11⟩
  icases H12 with ⟨%f12, -, H12⟩
  unfold fly2 zrow2
  icases HF with ⟨HX, HC⟩
  icases HZ with ⟨HzX, HzC⟩
  sl_exec
  iapply (finish_fly scX sqX hbX c (cellX (cur t)) (qs (cur t)) WX z0 (Memref.isWhole_whole _) (cur t) _ (cellX_eq _ (off11_eq t) _) (off12_eq t) _ _ _ _ _ _) $$ [HX HzX HW]
  · isplitl [HX]; · iexact HX
    isplitl [HzX] <;> iassumption
  iintro ⟨HX, HvX, HsX, ⟨%W1, HW⟩⟩
  iapply (finish_fly scC sqC hbC c (cellC (cur t)) (qs (cur t)) WC z0 (Memref.isWhole_whole _) (cur t) _ (cellC_eq _ (off14_eq t) _) (off15_eq t) _ _ _ _ _ _) $$ [HC HzC HW]
  · isplitl [HC]; · iexact HC
    isplitl [HzC] <;> iassumption
  iintro ⟨HC, HvC, HsC, ⟨%W2, HW⟩⟩
  simp only [ret_bind_eq]
  simp only [bind_eq]
  sl_exec
  iapply (load_held scX hbX c WX z0 (Memref.isWhole_whole _) (cur t) _ (off18_eq t) _ _ _) $$ HX
  iintro HX
  iapply (load_held scC hbC c WC z0 (Memref.isWhole_whole _) (cur t) _ (off19_eq t) _ _ _) $$ HC
  iintro HC
  simp only [ret_bind_eq]
  simp only [bind_eq]
  sl_exec
  have E0 : arg4.view.readAt (Elt F) (Rect.unit (s := S1x1x256) ![0, 0, 0] S1x1x256.size inb_S1x1x256_S1x1x256_0_0_0).toLoadRect f0 = x0 := (View.readAt_full _ _ inb_S1x1x256_S1x1x256_0_0_0).trans hf0
  have E1 : arg5.view.readAt (Elt F) (Rect.unit (s := S1x1x256) ![0, 0, 0] S1x1x256.size inb_S1x1x256_S1x1x256_0_0_0).toLoadRect f1 = x1 := (View.readAt_full _ _ inb_S1x1x256_S1x1x256_0_0_0).trans hf1
  have E2 : arg6.view.readAt (Elt F) (Rect.unit (s := S1x256x1) ![0, 0, 0] S1x256x1.size inb_S1x256x1_S1x256x1_0_0_0).toLoadRect f2 = x2 := (View.readAt_full _ _ inb_S1x256x1_S1x256x1_0_0_0).trans hf2
  have E3 : arg7.view.readAt (Elt F) (Rect.unit (s := S1x256x1) ![0, 0, 0] S1x256x1.size inb_S1x256x1_S1x256x1_0_0_0).toLoadRect f3 = x3 := (View.readAt_full _ _ inb_S1x256x1_S1x256x1_0_0_0).trans hf3
  have E4 : arg8.view.readAt (Elt F) (Rect.unit (s := S64x64) ![0, 0] S64x64.size inb_S64x64_S64x64_0_0).toLoadRect f4 = x4 := (View.readAt_full _ _ inb_S64x64_S64x64_0_0).trans hf4
  have E5 : arg9.view.readAt (Elt F) (Rect.unit (s := S1x64) ![0, 0] S1x64.size inb_S1x64_S1x64_0_0).toLoadRect f5 = x5 := (View.readAt_full _ _ inb_S1x64_S1x64_0_0).trans hf5
  have E6 : arg10.view.readAt (Elt F) (Rect.unit (s := S9x64) ![0, 0] S9x64.size inb_S9x64_S9x64_0_0).toLoadRect f6 = x6 := (View.readAt_full _ _ inb_S9x64_S9x64_0_0).trans hf6
  have E7 : arg11.view.readAt (Elt F) (Rect.unit (s := S64x90) ![0, 0] S64x90.size inb_S64x90_S64x90_0_0).toLoadRect f7 = x7 := (View.readAt_full _ _ inb_S64x90_S64x90_0_0).trans hf7
  have E8 : arg12.view.readAt (Elt F) (Rect.unit (s := S90x9) ![0, 0] S90x9.size inb_S90x9_S90x9_0_0).toLoadRect f8 = x8 := (View.readAt_full _ _ inb_S90x9_S90x9_0_0).trans hf8
  have E9 : arg13.view.readAt (Elt F) (Rect.unit (s := S1x9) ![0, 0] S1x9.size inb_S1x9_S1x9_0_0).toLoadRect f9 = x9 := (View.readAt_full _ _ inb_S1x9_S1x9_0_0).trans hf9
  have E10 : arg14.view.readAt (Elt F) (Rect.unit (s := S9x9) ![0, 0] S9x9.size inb_S9x9_S9x9_0_0).toLoadRect f10 = x10 := (View.readAt_full _ _ inb_S9x9_S9x9_0_0).trans hf10
  have E11 : arg15.view.readAt (Elt F) (Rect.unit (s := S1x9) ![0, 0] S1x9.size inb_S1x9_S1x9_0_0).toLoadRect f11 = x11 := (View.readAt_full _ _ inb_S1x9_S1x9_0_0).trans hf11
  have Ew := word_eq (F := F) tb (t.val * 256) (by have := t.isLt; have : grid0.N = 64 := rfl; omega) (off17_eq t) (k0_off17_inb (grid0.coords t)) (show 0 < S1.numel by decide)
  ihave HFX := (held_split scX sqX hbX c (cellX (cur t)) (qs (cur t)) WX z0 (Memref.isWhole_whole _) (cur t) (st tb (t.val * 256) (by have := t.isLt; have : grid0.N = 64 := rfl; omega))) $$ [HX HvX HsX]
  · isplitl [HX]; · iexact HX
    isplitl [HvX]; · iexact HvX
    iexact HsX
  icases HFX with ⟨HX, HzX⟩
  ihave HFC := (held_split scC sqC hbC c (cellC (cur t)) (qs (cur t)) WC z0 (Memref.isWhole_whole _) (cur t) (st tb (t.val * 256) (by have := t.isLt; have : grid0.N = 64 := rfl; omega))) $$ [HC HvC HsC]
  · isplitl [HC]; · iexact HC
    isplitl [HvC]; · iexact HvC
    iexact HsC
  icases HFC with ⟨HC, HzC⟩
  sl_step
  iapply hQ
  isplitl [HT]; · iexact HT
  isplitl [HX HC]
  · unfold free2; isplitl [HX] <;> iassumption
  isplitl [HzX HzC]
  · unfold zrow2; isplitl [HzX] <;> iassumption
  isplitl [HW]; · iexists _; iexact HW
  isplitl [H0]
  · unfold owns; iexists f0; isplitr; · ipureintro; exact hf0
    iexact H0
  isplitl [H1]
  · unfold owns; iexists f1; isplitr; · ipureintro; exact hf1
    iexact H1
  isplitl [H2]
  · unfold owns; iexists f2; isplitr; · ipureintro; exact hf2
    iexact H2
  isplitl [H3]
  · unfold owns; iexists f3; isplitr; · ipureintro; exact hf3
    iexact H3
  isplitl [H4]
  · unfold owns; iexists f4; isplitr; · ipureintro; exact hf4
    iexact H4
  isplitl [H5]
  · unfold owns; iexists f5; isplitr; · ipureintro; exact hf5
    iexact H5
  isplitl [H6]
  · unfold owns; iexists f6; isplitr; · ipureintro; exact hf6
    iexact H6
  isplitl [H7]
  · unfold owns; iexists f7; isplitr; · ipureintro; exact hf7
    iexact H7
  isplitl [H8]
  · unfold owns; iexists f8; isplitr; · ipureintro; exact hf8
    iexact H8
  isplitl [H9]
  · unfold owns; iexists f9; isplitr; · ipureintro; exact hf9
    iexact H9
  isplitl [H10]
  · unfold owns; iexists f10; isplitr; · ipureintro; exact hf10
    iexact H10
  isplitl [H11]
  · unfold owns; iexists f11; isplitr; · ipureintro; exact hf11
    iexact H11
  isplitl [H12]
  · unfold owns; iexists _; isplitr
    swap
    · iexact H12
    · ipureintro
      refine (View.read_writes_full _ _ _ _ _).trans ?_
      dsimp only
      refine out_congr ?_ E0 E1 E2 E3 E4 E5 E6 E7 E8 E9 E10 E11
      exact congrArg st8 Ew
  iexact HR

end Parts

end Cert.KernelIdeal.Gen

end
-- ==== Proof.RunFrame.lean ====
/- The launch: what the two rings hold between grid points, the body at every point, and the run of the whole program
   with its arrays and counters at the end. -/
module

public import proofs.«01_k».proof.Proof.RunBody
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem idx_lt (t : Fin grid0.N) : t.val * 256 < 16385 := by have := t.isLt; have : grid0.N = 64 := rfl; omega

/-- The tile the body stores at point `t`. -/
def outVal (c : Dev nD) (t : Fin (cfgM m).N) : Vec F S256x9 .f32 :=
  outV (st8 (word (tbl m 0) (t.val * 256) (idx_lt t)))
    (slotV (st (tbl m 0) (t.val * 256) (idx_lt t)) (hbX.view.read (Elt F) (V m c main_arg0)) z0)
    (slotV (st (tbl m 0) (t.val * 256) (idx_lt t)) (hbC.view.read (Elt F) (V m c main_call0_v14)) z0)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)

/-- Slot `k % 2`, and the other one. -/
def slot (k : ℕ) : Fin 2 := ⟨k % 2, Nat.mod_lt _ (by decide)⟩

/-- Both last rows at zero, the table's half and the generator register: what every point but the first finds and leaves. -/
def kept (c : Dev nD) : sProp 𝕄 :=
  iprop(tbPt c (tbl m 0) ∗ zrow2 (F := F) c 0 ∗ zrow2 (F := F) c 1 ∗ (∃ r, prngReg c r))

/-- What is held before point `k`: at first everything whole; then one slot's copies under way and the other slot free;
    after the last point both slots free. -/
def inv (c : Dev nD) (k : ℕ) : sProp 𝕄 :=
  if k = 0 then iprop(Pipeline.ΦD osem0 spec0 H0 (V m) c ∗ Pipeline.ΦT pre0 (tbl m) c)
  else if h : k < 64 then iprop(kept m c ∗ free2 c (V m c main_arg0) (V m c main_call0_v14) (slot (k + 1))
      ∗ fly2 c (V m c main_arg0) (V m c main_call0_v14) (slot k) (st (tbl m 0) (k * 256) (by omega)))
  else iprop(kept m c ∗ free2 c (V m c main_arg0) (V m c main_call0_v14) (slot (k + 1)) ∗ free2 c (V m c main_arg0) (V m c main_call0_v14) (slot k))

theorem inv_mid (c : Dev nD) (k : ℕ) (h0 : ¬ k = 0) (h : k < 64) : inv m c k = iprop(kept m c ∗ free2 c (V m c main_arg0) (V m c main_call0_v14) (slot (k + 1))
      ∗ fly2 c (V m c main_arg0) (V m c main_call0_v14) (slot k) (st (tbl m 0) (k * 256) (by omega))) := by
  unfold inv; rw [if_neg h0, dif_pos h]
theorem inv_end (c : Dev nD) (k : ℕ) (h0 : ¬ k = 0) (h : ¬ k < 64) : inv m c k = iprop(kept m c ∗ free2 c (V m c main_arg0) (V m c main_call0_v14) (slot (k + 1))
      ∗ free2 c (V m c main_arg0) (V m c main_call0_v14) (slot k)) := by
  unfold inv; rw [if_neg h0, dif_neg h]

/-- The pipeline's data on core `c`: every input's buffer at its block, the output's at the tile stored. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outVal m c t
  Φ k := inv m c k.val
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = iblk m c 4 t := by dsimp only [dats]; try rfl
theorem after_5 (c : Dev nD) (t : Fin (cfgM m).N) : (dats m 0 c).after 5 t = iblk m c 5 t := by dsimp only [dats]; try rfl
theorem after_6 (c : Dev nD) (t : Fin (cfgM m).N) : (dats m 0 c).after 6 t = iblk m c 6 t := by dsimp only [dats]; try rfl
theorem after_7 (c : Dev nD) (t : Fin (cfgM m).N) : (dats m 0 c).after 7 t = iblk m c 7 t := by dsimp only [dats]; try rfl
theorem after_8 (c : Dev nD) (t : Fin (cfgM m).N) : (dats m 0 c).after 8 t = iblk m c 8 t := by dsimp only [dats]; try rfl
theorem after_9 (c : Dev nD) (t : Fin (cfgM m).N) : (dats m 0 c).after 9 t = iblk m c 9 t := by dsimp only [dats]; try rfl
theorem after_10 (c : Dev nD) (t : Fin (cfgM m).N) : (dats m 0 c).after 10 t = iblk m c 10 t := by dsimp only [dats]; try rfl
theorem after_11 (c : Dev nD) (t : Fin (cfgM m).N) : (dats m 0 c).after 11 t = iblk m c 11 t := by dsimp only [dats]; try rfl
theorem after_12 (c : Dev nD) (t : Fin (cfgM m).N) : (dats m 0 c).after 12 t = outVal m c t := by dsimp only [dats]; try rfl

theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgM m).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgM m).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfgM m).N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (cfgM m).N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin (cfgM m).N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin (cfgM m).N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin (cfgM m).N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin (cfgM m).N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin (cfgM m).N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)

/-! ## The body at a point -/

/-- What the body is handed at point `t`, and what it hands back. -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d))
    ∗ (∃ d, owns (c : Thread nD τ) (ms7 m t) fullShare ((dats m 0 c).before 7 t d))
    ∗ (∃ d, owns (c : Thread nD τ) (ms8 m t) fullShare ((dats m 0 c).before 8 t d))
    ∗ (∃ d, owns (c : Thread nD τ) (ms9 m t) fullShare ((dats m 0 c).before 9 t d))
    ∗ (∃ d, owns (c : Thread nD τ) (ms10 m t) fullShare ((dats m 0 c).before 10 t d))
    ∗ (∃ d, owns (c : Thread nD τ) (ms11 m t) fullShare ((dats m 0 c).before 11 t d))
    ∗ (∃ d, owns (c : Thread nD τ) (ms12 m t) fullShare ((dats m 0 c).before 12 t d)))
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t)
    ∗ owns (c : Thread nD τ) (ms6 m t) fullShare ((dats m 0 c).after 6 t)
    ∗ owns (c : Thread nD τ) (ms7 m t) fullShare ((dats m 0 c).after 7 t)
    ∗ owns (c : Thread nD τ) (ms8 m t) fullShare ((dats m 0 c).after 8 t)
    ∗ owns (c : Thread nD τ) (ms9 m t) fullShare ((dats m 0 c).after 9 t)
    ∗ owns (c : Thread nD τ) (ms10 m t) fullShare ((dats m 0 c).after 10 t)
    ∗ owns (c : Thread nD τ) (ms11 m t) fullShare ((dats m 0 c).after 11 t)
    ∗ owns (c : Thread nD τ) (ms12 m t) fullShare ((dats m 0 c).after 12 t))

/-- The buffers as the body finds them. -/
def winsPre (c : Dev nD) (t : Fin (cfgM m).N) : sProp 𝕄 :=
  iprop(owns (c : Thread nD τ) (ms0 m t) fullShare (iblk m c 0 t) ∗ owns (c : Thread nD τ) (ms1 m t) fullShare (iblk m c 1 t) ∗ owns (c : Thread nD τ) (ms2 m t) fullShare (iblk m c 2 t) ∗ owns (c : Thread nD τ) (ms3 m t) fullShare (iblk m c 3 t) ∗ owns (c : Thread nD τ) (ms4 m t) fullShare (iblk m c 4 t) ∗ owns (c : Thread nD τ) (ms5 m t) fullShare (iblk m c 5 t) ∗ owns (c : Thread nD τ) (ms6 m t) fullShare (iblk m c 6 t) ∗ owns (c : Thread nD τ) (ms7 m t) fullShare (iblk m c 7 t) ∗ owns (c : Thread nD τ) (ms8 m t) fullShare (iblk m c 8 t) ∗ owns (c : Thread nD τ) (ms9 m t) fullShare (iblk m c 9 t) ∗ owns (c : Thread nD τ) (ms10 m t) fullShare (iblk m c 10 t) ∗ owns (c : Thread nD τ) (ms11 m t) fullShare (iblk m c 11 t) ∗ (∃ d, owns (c : Thread nD τ) (ms12 m t) fullShare (d)))
/-- The buffers as the body leaves them. -/
def winsPost (c : Dev nD) (t : Fin (cfgM m).N) : sProp 𝕄 :=
  iprop(owns (c : Thread nD τ) (ms0 m t) fullShare (iblk m c 0 t) ∗ owns (c : Thread nD τ) (ms1 m t) fullShare (iblk m c 1 t) ∗ owns (c : Thread nD τ) (ms2 m t) fullShare (iblk m c 2 t) ∗ owns (c : Thread nD τ) (ms3 m t) fullShare (iblk m c 3 t) ∗ owns (c : Thread nD τ) (ms4 m t) fullShare (iblk m c 4 t) ∗ owns (c : Thread nD τ) (ms5 m t) fullShare (iblk m c 5 t) ∗ owns (c : Thread nD τ) (ms6 m t) fullShare (iblk m c 6 t) ∗ owns (c : Thread nD τ) (ms7 m t) fullShare (iblk m c 7 t) ∗ owns (c : Thread nD τ) (ms8 m t) fullShare (iblk m c 8 t) ∗ owns (c : Thread nD τ) (ms9 m t) fullShare (iblk m c 9 t) ∗ owns (c : Thread nD τ) (ms10 m t) fullShare (iblk m c 10 t) ∗ owns (c : Thread nD τ) (ms11 m t) fullShare (iblk m c 11 t) ∗ owns (c : Thread nD τ) (ms12 m t) fullShare (outVal m c t))

/-- The body's first part, as the pipeline calls it at point `t`. -/
abbrev part3At (t : Fin (cfgM m).N) : Prog (TpuEff nD τ sig (Elt F) Λ₀ .tc) ((_ : BitVec 32) ×' (v19 : Elt F .i32) ×' (_ : k0_chk3 v19) ×' BitVec 32) :=
  k0_part3 (F := F) (grid0.coords t) tbM (Memref.isWhole_whole _) hbX (Memref.isWhole_whole _) hbC (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) (ms11 m t) (hs11 m t) (ms12 m t) (hs12 m t) scX (Memref.isWhole_whole _) scC (Memref.isWhole_whole _) cc0_scratch2 cc0_scratch3

/-- The body at point `t` from what its first part leaves, with a rest `G` untouched. -/
theorem body_at (c : Dev nD) (t : Fin (cfgM m).N) (hb : ∀ j, (tbl m 0 j).toNat ≤ 89927) (P G : sProp 𝕄) (Ws : Waits sig Unit) {Q : PUnit → sProp 𝕄}
    (h3 : ∀ Q' : ((_ : BitVec 32) ×' (v19 : Elt F .i32) ×' (_ : k0_chk3 v19) ×' BitVec 32) → sProp 𝕄,
      (∀ r, iprop(tbPt c (tbl m 0) ∗ fly2 c (V m c main_arg0) (V m c main_call0_v14) (cur t) (st (tbl m 0) (t.val * 256) (idx_lt t)) ∗ zrow2 (F := F) c (cur t)
        ∗ (owes (c : Thread nD τ) 0 Ws ∗ winsPre m c t ∗ G)) ⊢ Q' r) →
      P ⊢ wp frame (wpE (defs₀ (F := F)) Variants.none (c : Thread nD τ) none) Set.univ (part3At m t) Q')
    (hQ : iprop(tbPt c (tbl m 0) ∗ free2 c (V m c main_arg0) (V m c main_call0_v14) (cur t) ∗ zrow2 (F := F) c (cur t)
        ∗ (∃ Ws', owes (c : Thread nD τ) 0 Ws') ∗ winsPost m c t ∗ G) ⊢ Q ⟨⟩) :
    P ⊢ wp frame (wpE (defs₀ (F := F)) Variants.none (c : Thread nD τ) none) Set.univ (bodyAt m t) Q := by
  refine body_run (c := c) (WX := V m c main_arg0) (WC := V m c main_call0_v14) (tb := tbl m 0) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) (ms11 m t) (hs11 m t) (ms12 m t) (hs12 m t) (t := t) (hb := hb) P
    (iprop(owes (c : Thread nD τ) 0 Ws ∗ winsPre m c t ∗ G)) h3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) G Ws ?_ ?_
  · unfold winsPre
    iintro ⟨HW, ⟨H0, H1, H2, H3, H4, H5, H6, H7, H8, H9, H10, H11, H12⟩, HG⟩
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HG
  · refine .trans ?_ hQ
    unfold winsPost outVal
    iintro ⟨HT, HF, HZ, HW, H0, H1, H2, H3, H4, H5, H6, H7, H8, H9, H10, H11, H12, HG⟩
    isplitl [HT]; · iexact HT
    isplitl [HF]; · iexact HF
    isplitl [HZ]; · iexact HZ
    isplitl [HW]; · iexact HW
    isplitr [HG]
    ·
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iexact HG

theorem slot_add_two (k : ℕ) : slot (k + 1 + 1) = slot k := Fin.ext (by show (k + 1 + 1) % 2 = k % 2; omega)

/-- The two last rows, named by the point's own slot and the other one. -/
theorem zrows (c : Dev nD) (k : ℕ) : (iprop(zrow2 (F := F) c 0 ∗ zrow2 (F := F) c 1) : sProp 𝕄) ⊢ iprop(zrow2 (F := F) c (slot k) ∗ zrow2 (F := F) c (slot (k + 1))) := by
  rcases Nat.mod_two_eq_zero_or_one k with h | h
  · rw [show slot k = 0 from Fin.ext h, show slot (k + 1) = 1 from Fin.ext (by show (k + 1) % 2 = 1; omega)]
  · rw [show slot k = 1 from Fin.ext h, show slot (k + 1) = 0 from Fin.ext (by show (k + 1) % 2 = 0; omega)]
    iintro ⟨H, H'⟩
    isplitl [H'] <;> iassumption
theorem zrows' (c : Dev nD) (k : ℕ) : (iprop(zrow2 (F := F) c (slot k) ∗ zrow2 (F := F) c (slot (k + 1))) : sProp 𝕄) ⊢ iprop(zrow2 (F := F) c 0 ∗ zrow2 (F := F) c 1) := by
  rcases Nat.mod_two_eq_zero_or_one k with h | h
  · rw [show slot k = 0 from Fin.ext h, show slot (k + 1) = 1 from Fin.ext (by show (k + 1) % 2 = 1; omega)]
  · rw [show slot k = 1 from Fin.ext h, show slot (k + 1) = 0 from Fin.ext (by show (k + 1) % 2 = 0; omega)]
    iintro ⟨H, H'⟩
    isplitl [H'] <;> iassumption

theorem fly_congr (c : Dev nD) (WX : BufOf (F := F) c hbX) (WC : BufOf (F := F) c hbC) (tb : S16385.Idx → BitVec 32) {s s' : Fin 2} {n n' : ℕ} (h : n < 16385) (h' : n' < 16385) (hs : s = s') (hn : n = n') :
    fly2 c WX WC s (st tb n h) = fly2 c WX WC s' (st tb n' h') := by subst hs hn; rfl

variable (c : Dev nD) (t : Fin (cfgM m).N) (hb : ∀ j, (tbl m 0 j).toNat ≤ 89927)

/-- What a point ends with, whichever it is. -/
def ended (t : Fin (cfgM m).N) : sProp 𝕄 := iprop(inv m c (t.val + 1) ∗ (∃ Ws, owes (c : Thread nD τ) 0 Ws) ∗ winsPost m c t)

include hb

theorem run_last (h1 : ¬ t.val = 0) (h2 : ¬ t.val + 1 < 64) (Ws : Waits sig Unit) :
    iprop(inv m c t.val ∗ owes (c : Thread nD τ) 0 Ws ∗ winsPre m c t) ⊢ wp frame (wpE (defs₀ (F := F)) Variants.none (c : Thread nD τ) none) Set.univ (bodyAt m t) (fun _ => ended m c t) := by
  have ht : t.val < 64 := t.isLt
  rw [inv_mid m c t.val h1 ht]
  unfold ended
  rw [inv_end m c (t.val + 1) (Nat.succ_ne_zero _) h2, slot_add_two]
  refine .trans ?_ (body_at m c t hb iprop(tbPt c (tbl m 0) ∗ (fly2 c (V m c main_arg0) (V m c main_call0_v14) (cur t) (st (tbl m 0) (t.val * 256) (idx_lt t)) ∗ zrow2 (F := F) c (cur t) ∗ owes (c : Thread nD τ) 0 Ws ∗ winsPre m c t
      ∗ free2 c (V m c main_arg0) (V m c main_call0_v14) (nxt t) ∗ zrow2 (F := F) c (nxt t) ∗ (∃ r, prngReg c r)))
    iprop(free2 c (V m c main_arg0) (V m c main_call0_v14) (nxt t) ∗ zrow2 (F := F) c (nxt t) ∗ (∃ r, prngReg c r)) Ws (fun Q' hQ' => part3_last (c := c) (tb := tbl m 0) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) (ms11 m t) (hs11 m t) (ms12 m t) (hs12 m t) (t := t) (hb := hb) h1 h2 _ hQ') ?_)
  · unfold kept
    iintro ⟨⟨⟨HT, HZ0, HZ1, Hg⟩, HF, HY⟩, HW, HB⟩
    ihave HZ := (zrows c t.val) $$ [HZ0 HZ1]
    · isplitl [HZ0] <;> iassumption
    icases HZ with ⟨HZ0, HZ1⟩
    isplitl [HT]; · iexact HT
    isplitl [HY]; · iexact HY
    isplitl [HZ0]; · iexact HZ0
    isplitl [HW]; · iexact HW
    isplitl [HB]; · iexact HB
    isplitl [HF]; · iexact HF
    isplitl [HZ1]; · iexact HZ1
    iexact Hg
  · unfold kept
    iintro ⟨HT, HF, HZ0, HW, HB, HF', HZ1, Hg⟩
    ihave HZ := (zrows' c t.val) $$ [HZ0 HZ1]
    · isplitl [HZ0]; · iexact HZ0
      iexact HZ1
    icases HZ with ⟨HZ0, HZ1⟩
    isplitr [HW HB]
    · isplitl [HT HZ0 HZ1 Hg]
      · isplitl [HT]; · iexact HT
        isplitl [HZ0]; · iexact HZ0
        isplitl [HZ1] <;> iassumption
      isplitl [HF]; · iexact HF
      iexact HF'
    isplitl [HW]; · iexact HW
    iexact HB

theorem run_mid (h1 : ¬ t.val = 0) (h2 : t.val + 1 < 64) (Ws : Waits sig Unit) :
    iprop(inv m c t.val ∗ owes (c : Thread nD τ) 0 Ws ∗ winsPre m c t) ⊢ wp frame (wpE (defs₀ (F := F)) Variants.none (c : Thread nD τ) none) Set.univ (bodyAt m t) (fun _ => ended m c t) := by
  have ht : t.val < 64 := t.isLt
  rw [inv_mid m c t.val h1 ht]
  unfold ended
  rw [inv_mid m c (t.val + 1) (Nat.succ_ne_zero _) h2, slot_add_two]
  refine .trans ?_ (body_at m c t hb iprop(tbPt c (tbl m 0) ∗ free2 c (V m c main_arg0) (V m c main_call0_v14) (nxt t) ∗ (fly2 c (V m c main_arg0) (V m c main_call0_v14) (cur t) (st (tbl m 0) (t.val * 256) (idx_lt t)) ∗ zrow2 (F := F) c (cur t) ∗ owes (c : Thread nD τ) 0 Ws ∗ winsPre m c t
      ∗ zrow2 (F := F) c (nxt t) ∗ (∃ r, prngReg c r)))
    iprop(fly2 c (V m c main_arg0) (V m c main_call0_v14) (nxt t) (st (tbl m 0) ((t.val + 1) * 256) (by omega)) ∗ zrow2 (F := F) c (nxt t) ∗ (∃ r, prngReg c r)) Ws (fun Q' hQ' => part3_mid (c := c) (WX := V m c main_arg0) (WC := V m c main_call0_v14) (tb := tbl m 0) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) (ms11 m t) (hs11 m t) (ms12 m t) (hs12 m t) (t := t) (hb := hb) h1 h2 _ (fun r => .trans ?_ (hQ' r))) ?_)
  · unfold kept
    iintro ⟨⟨⟨HT, HZ0, HZ1, Hg⟩, HF, HY⟩, HW, HB⟩
    ihave HZ := (zrows c t.val) $$ [HZ0 HZ1]
    · isplitl [HZ0] <;> iassumption
    icases HZ with ⟨HZ0, HZ1⟩
    isplitl [HT]; · iexact HT
    isplitl [HF]; · iexact HF
    isplitl [HY]; · iexact HY
    isplitl [HZ0]; · iexact HZ0
    isplitl [HW]; · iexact HW
    isplitl [HB]; · iexact HB
    isplitl [HZ1]; · iexact HZ1
    iexact Hg
  · iintro ⟨HT, HY', HY, HZ, HW, HB, HG⟩
    isplitl [HT]; · iexact HT
    isplitl [HY]; · iexact HY
    isplitl [HZ]; · iexact HZ
    isplitl [HW]; · iexact HW
    isplitl [HB]; · iexact HB
    isplitl [HY'] <;> iassumption
  · unfold kept
    iintro ⟨HT, HF, HZ0, HW, HB, HY, HZ1, Hg⟩
    ihave HZ := (zrows' c t.val) $$ [HZ0 HZ1]
    · isplitl [HZ0]; · iexact HZ0
      iexact HZ1
    icases HZ with ⟨HZ0, HZ1⟩
    isplitr [HW HB]
    · isplitl [HT HZ0 HZ1 Hg]
      · isplitl [HT]; · iexact HT
        isplitl [HZ0]; · iexact HZ0
        isplitl [HZ1] <;> iassumption
      isplitl [HF]; · iexact HF
      iexact HY
    isplitl [HW]; · iexact HW
    iexact HB

theorem run_first (h1 : t.val = 0) (Ws : Waits sig Unit) :
    iprop(inv m c t.val ∗ owes (c : Thread nD τ) 0 Ws ∗ winsPre m c t) ⊢ wp frame (wpE (defs₀ (F := F)) Variants.none (c : Thread nD τ) none) Set.univ (bodyAt m t) (fun _ => ended m c t) := by
  have hc : cur t = 0 := Fin.ext (by show t.val % 2 = 0; omega)
  rw [show inv m c t.val = iprop(Pipeline.ΦD osem0 spec0 H0 (V m) c ∗ Pipeline.ΦT pre0 (tbl m) c) from if_pos h1, PhiD_eq, PhiT_eq]
  unfold ended
  rw [inv_mid m c (t.val + 1) (Nat.succ_ne_zero _) (by omega), slot_add_two, show slot t.val = 0 from hc, show slot (t.val + 1) = 1 from Fin.ext (by show (t.val + 1) % 2 = 1; omega),
    fly_congr c (V m c main_arg0) (V m c main_call0_v14) (tbl m 0) (n := (t.val + 1) * 256) (n' := 256) (by omega) (by decide) rfl (by omega)]
  refine .trans ?_ (body_at m c t hb iprop(tbPt c (tbl m 0) ∗ (∃ f, scXPt c f) ∗ (∃ f, scCPt c f) ∗ rest0 c (V m c main_arg0) (V m c main_call0_v14)
      ∗ (owes (c : Thread nD τ) 0 Ws ∗ winsPre m c t ∗ (∃ r, prngReg c r)))
    iprop(fly2 c (V m c main_arg0) (V m c main_call0_v14) 1 (st (tbl m 0) 256 (by decide)) ∗ zrow2 (F := F) c 1 ∗ (∃ r, prngReg c r)) Ws (fun Q' hQ' => part3_first (c := c) (WX := V m c main_arg0) (WC := V m c main_call0_v14) (tb := tbl m 0) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) (ms11 m t) (hs11 m t) (ms12 m t) (hs12 m t) (t := t) (hb := hb) h1 _ (fun r => .trans ?_ (hQ' r))) ?_)
  · unfold rest0
    iintro ⟨⟨⟨⟨HS0, HS1⟩, Hg, ⟨Hq0, Hq1, Hq2, Hq3⟩, ⟨Hh0, Hh1⟩⟩, HT⟩, HW, HB⟩
    isplitl [HT]; · iexact HT
    isplitl [HS0]; · iexact HS0
    isplitl [HS1]; · iexact HS1
    isplitl [Hq0 Hq1 Hq2 Hq3 Hh0 Hh1]
    · isplitl [Hq0]; · iexact Hq0
      isplitl [Hq1]; · iexact Hq1
      isplitl [Hq2]; · iexact Hq2
      isplitl [Hq3]; · iexact Hq3
      isplitl [Hh0]; · iexact Hh0
      iexact Hh1
    isplitl [HW]; · iexact HW
    isplitl [HB]; · iexact HB
    iexact Hg
  · rw [hc, fly_congr c (V m c main_arg0) (V m c main_call0_v14) (tbl m 0) (n := t.val * 256) (n' := 0) (idx_lt t) (by decide) rfl (by omega)]
    iintro ⟨HT, HY, HY', HZ, HZ', HW, HB, Hg⟩
    isplitl [HT]; · iexact HT
    isplitl [HY]; · iexact HY
    isplitl [HZ]; · iexact HZ
    isplitl [HW]; · iexact HW
    isplitl [HB]; · iexact HB
    isplitl [HY']; · iexact HY'
    isplitl [HZ'] <;> iassumption
  · rw [hc]
    unfold kept
    iintro ⟨HT, HF, HZ0, HW, HB, HY, HZ1, Hg⟩
    isplitr [HW HB]
    · isplitl [HT HZ0 HZ1 Hg]
      · isplitl [HT]; · iexact HT
        isplitl [HZ0]; · iexact HZ0
        isplitl [HZ1] <;> iassumption
      isplitl [HF]; · iexact HF
      iexact HY
    isplitl [HW]; · iexact HW
    iexact HB

theorem run_at (Ws : Waits sig Unit) :
    iprop(inv m c t.val ∗ owes (c : Thread nD τ) 0 Ws ∗ winsPre m c t) ⊢ wp frame (wpE (defs₀ (F := F)) Variants.none (c : Thread nD τ) none) Set.univ (bodyAt m t) (fun _ => ended m c t) := by
  by_cases h1 : t.val = 0
  · exact run_first m c t hb h1 Ws
  by_cases h2 : t.val + 1 < 64
  · exact run_mid m c t hb h1 h2 Ws
  · exact run_last m c t hb h1 h2 Ws

theorem sound_body : bodyPre m c t ⊢ wp frame (wpE (defs₀ (F := F)) Variants.none (c : Thread nD τ) none) Set.univ (bodyAt m t) (fun _ => bodyPost m c t) := by
  unfold bodyPre bodyPost
  simp only [before_0, before_1, before_2, before_3, before_4, before_5, before_6, before_7, before_8, before_9, before_10, before_11]
  rw [after_0, after_1, after_2, after_3, after_4, after_5, after_6, after_7, after_8, after_9, after_10, after_11, after_12]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  have hpost : ∀ _ : PUnit, ended m c t ⊢ iprop(inv m c (t.val + 1) ∗ (∃ W : Waits sig Unit, ⌜(↑W : Set _) ⊆ (dats m 0 c).bound () t.succ⌝ ∗ owes (c : Thread nD τ) 0 W) ∗ winsPost m c t) := by
    intro _
    unfold ended
    iintro ⟨HΦ, ⟨%W', HW'⟩, HB⟩
    isplitl [HΦ]; · iexact HΦ
    isplitl [HW']
    · iexists W'; isplitr; · ipureintro; exact fun _ _ => Or.inl trivial
      iexact HW'
    iexact HB
  refine .trans ?_ (wp_mono frame (wpE (defs₀ (F := F)) Variants.none (c : Thread nD τ) none) Set.univ hpost)
  iintro ⟨HΦ, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_at m c t hb W)
  isplitl [HΦ]; · iexact HΦ
  isplitl [HW]; · iexact HW
  unfold winsPre
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _; iexact H12

theorem body_obligation : BodyObligation (dats (F := F) m 0 c) (defs₀ (F := F)) Variants.none () Set.univ := fun t => by
  rw [bigSep_W0, bigSep_W0, defs₀_row m]
  exact triple_restated (sound_body m c t hb) rfl .rfl fun _ => .rfl

omit hb in
/-- After the last point everything is whole again. -/
theorem inv_last : inv m c 64 ⊢ Pipeline.ΦD osem0 spec0 H0 (V m) c := by
  rw [inv_end m c 64 (by decide) (by decide), PhiD_eq, show slot (64 + 1) = 1 from rfl, show slot 64 = 0 from rfl]
  unfold kept free2 zrow2
  iintro ⟨⟨HT, ⟨HzX0, HzC0⟩, ⟨HzX1, HzC1⟩, Hg⟩, ⟨HX1, HC1⟩, ⟨HX0, HC0⟩⟩
  ihave HX := (done_join scX sqX hbX c (cellX 0) (V m c main_arg0) z0 (Memref.isWhole_whole _) (cellX 1)) $$ [HX0 HX1 HzX0 HzX1]
  · isplitl [HX0]; · iexact HX0
    isplitl [HX1]; · iexact HX1
    isplitl [HzX0] <;> iassumption
  ihave HC := (done_join scC sqC hbC c (cellC 0) (V m c main_call0_v14) z0 (Memref.isWhole_whole _) (cellC 1)) $$ [HC0 HC1 HzC0 HzC1]
  · isplitl [HC0]; · iexact HC0
    isplitl [HC1]; · iexact HC1
    isplitl [HzC0] <;> iassumption
  icases HX with ⟨HfX, HqX0, HqX1, HhX⟩
  icases HC with ⟨HfC, HqC0, HqC1, HhC⟩
  isplitl [HfX HfC]
  · isplitl [HfX] <;> iassumption
  isplitl [Hg]; · iexact Hg
  isplitl [HqX0 HqX1 HqC0 HqC1]
  · isplitl [HqX0]; · iexact HqX0
    isplitl [HqX1]; · iexact HqX1
    isplitl [HqC0]; · iexact HqC0
    iexact HqC1
  isplitl [HhX]; · iexact HhX
  iexact HhC

omit c t

/-! ## The run -/

set_option backward.isDefEq.respectTransparency.types false in
/-- From any memory whose table's words are at most the number of rows: the program runs to its end with every window's array as the
    points leave it, every other buffer as the call finds it, and every counter at zero. -/
theorem run_main : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m c hb).loose) (hshare := fun c => (dats m 0 c).share_full fun _ => rfl)
    (howed := fun _ _ => rfl) (V := V m) (hmain := hmain m Variants.none) (hA := A_eq m) (hpf := V_pre m) (hin := fun _ => .rfl) (hout := fun c => inv_last m c)

/-- The run's end: the result array as the points leave it, the arguments as launched, every counter at zero. -/
theorem run_out : θ_run defs (onTc (τ := τ) (main (F := F))) ⟨m, fun _ => 0, ρ⟩ (fun r => (∀ c : Dev nD,
      r.2.mem ((c.tc : Thread nD τ).loc main_v0) = (dats m 0 c).arrAt 12 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨(h.1 c).1 12,
    ((h.1 c).2 main_arg0 (by decide : main_arg0 ∈ Pipeline.restRefs sig spec0)).trans (V_args m c).1,
    ((h.1 c).2 main_arg1 (by decide : main_arg1 ∈ Pipeline.restRefs sig spec0)).trans (V_args m c).2.1,
    ((h.1 c).2 main_arg2 (by decide : main_arg2 ∈ Pipeline.restRefs sig spec0)).trans (V_args m c).2.2.1,
    ((h.1 c).2 main_arg3 (by decide : main_arg3 ∈ Pipeline.restRefs sig spec0)).trans (V_args m c).2.2.2.1,
    ((h.1 c).1 4).trans (((dats m 0 c).arrAt_in 4 rfl _).trans ((A_eq m c 4).trans (V_args m c).2.2.2.2.1)),
    ((h.1 c).2 main_arg5 (by decide : main_arg5 ∈ Pipeline.restRefs sig spec0)).trans (V_args m c).2.2.2.2.2.1,
    ((h.1 c).1 6).trans (((dats m 0 c).arrAt_in 6 rfl _).trans ((A_eq m c 6).trans (V_args m c).2.2.2.2.2.2.1)),
    ((h.1 c).2 main_arg7 (by decide : main_arg7 ∈ Pipeline.restRefs sig spec0)).trans (V_args m c).2.2.2.2.2.2.2.1,
    ((h.1 c).2 main_arg8 (by decide : main_arg8 ∈ Pipeline.restRefs sig spec0)).trans (V_args m c).2.2.2.2.2.2.2.2.1,
    ((h.1 c).1 10).trans (((dats m 0 c).arrAt_in 10 rfl _).trans ((A_eq m c 10).trans (V_args m c).2.2.2.2.2.2.2.2.2.1)),
    ((h.1 c).2 main_arg10 (by decide : main_arg10 ∈ Pipeline.restRefs sig spec0)).trans (V_args m c).2.2.2.2.2.2.2.2.2.2⟩, h.2⟩) (run_main m ρ hb)

theorem frame_of : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => (h.1 c).2, h.2⟩) (run_out m ρ hb)

end Cert.KernelIdeal.Gen

end
-- ==== Proof.Blocks.lean ====
/- The blocks the idealized kernel's body finds at a grid point, at an index. -/
module

public import proofs.«01_k».proof.Proof.Host
public import proofs.«01_k».proof.Proof.RunFrame
public import Idealize.ShloMosaic.Lib.Pipeline.ValueKit.Point

@[expose] public section

set_option maxRecDepth 16384

noncomputable section

namespace Cert.KernelIdeal

open Cert.KernelIdeal.Gen
open Idealize.ShloMosaic Idealize.ShloMosaic.TcCoe
open Cert.Proof.Boxes Cert.Proof.Spec
open Idealize.ShloMosaic.Pipeline (Dat Cfg Window)

variable {m : (ℓ : Loc nD τ sig) → Buf (Elt Ideal) ℓ} {c : Dev nD}

theorem coord_at : ∀ t : Fin grid0.N, (grid0.coords t 0).val = t.val := by decide +kernel

theorem win_idx (t : Fin (cfgM m).N) : ((cfgM m).win 0).index t = ![t.val, 0, 0] ∧ ((cfgM m).win 1).index t = ![t.val, 0, 0]
    ∧ ((cfgM m).win 2).index t = ![t.val, 0, 0] ∧ ((cfgM m).win 3).index t = ![t.val, 0, 0]
    ∧ ((cfgM m).win 4).index t = ![0, 0] ∧ ((cfgM m).win 5).index t = ![0, 0] ∧ ((cfgM m).win 6).index t = ![0, 0]
    ∧ ((cfgM m).win 7).index t = ![0, 0] ∧ ((cfgM m).win 8).index t = ![0, 0] ∧ ((cfgM m).win 9).index t = ![0, 0]
    ∧ ((cfgM m).win 10).index t = ![0, 0] ∧ ((cfgM m).win 11).index t = ![0, 0] ∧ ((cfgM m).win 12).index t = ![t.val, 0] := by
  revert t
  exact (by decide +kernel : ∀ t : Fin grid0.N, cc0_transform_2 (grid0.coords t) = ![t.val, 0, 0] ∧ cc0_transform_3 (grid0.coords t) = ![t.val, 0, 0]
    ∧ cc0_transform_4 (grid0.coords t) = ![t.val, 0, 0] ∧ cc0_transform_5 (grid0.coords t) = ![t.val, 0, 0]
    ∧ cc0_transform_6 (grid0.coords t) = ![0, 0] ∧ cc0_transform_7 (grid0.coords t) = ![0, 0] ∧ cc0_transform_8 (grid0.coords t) = ![0, 0]
    ∧ cc0_transform_9 (grid0.coords t) = ![0, 0] ∧ cc0_transform_10 (grid0.coords t) = ![0, 0] ∧ cc0_transform_11 (grid0.coords t) = ![0, 0]
    ∧ cc0_transform_12 (grid0.coords t) = ![0, 0] ∧ cc0_transform_13 (grid0.coords t) = ![0, 0] ∧ cc0_transform_14 (grid0.coords t) = ![t.val, 0])

theorem blk0 (t : Fin (cfgM m).N) (i : Fin 256) : iblk m c 0 t (ix3 0 0 i) = V m c main_call0_v7 (ix3 (t.cast rfl) 0 i) := by
  unfold iblk
  refine congrArg (V m c main_call0_v7) ?_
  blk_ext [win_idx t]
  exact Nat.add_zero _

theorem blk1 (t : Fin (cfgM m).N) (i : Fin 256) : iblk m c 1 t (ix3 0 0 i) = V m c main_call0_v8 (ix3 (t.cast rfl) 0 i) := by
  unfold iblk
  refine congrArg (V m c main_call0_v8) ?_
  blk_ext [win_idx t]
  exact Nat.add_zero _

theorem blk2 (t : Fin (cfgM m).N) (i : Fin 256) : iblk m c 2 t (ix3 0 i 0) = V m c main_call0_v9 (ix3 (t.cast rfl) i 0) := by
  unfold iblk
  refine congrArg (V m c main_call0_v9) ?_
  blk_ext [win_idx t]
  exact Nat.add_zero _

theorem blk3 (t : Fin (cfgM m).N) (i : Fin 256) : iblk m c 3 t (ix3 0 i 0) = V m c main_call0_v10 (ix3 (t.cast rfl) i 0) := by
  unfold iblk
  refine congrArg (V m c main_call0_v10) ?_
  blk_ext [win_idx t]
  exact Nat.add_zero _

theorem blk5 (t : Fin (cfgM m).N) (i : Fin 64) : iblk m c 5 t (ix2 0 i) = V m c main_call0_v27 (ix2 0 i) := by
  unfold iblk
  refine congrArg (V m c main_call0_v27) ?_
  blk_ext [win_idx t]

theorem blk7 (t : Fin (cfgM m).N) (i : Fin 64) (j : Fin 90) : iblk m c 7 t (ix2 i j) = V m c main_call0_v17 (ix2 i j) := by
  unfold iblk
  refine congrArg (V m c main_call0_v17) ?_
  blk_ext [win_idx t]

theorem blk8 (t : Fin (cfgM m).N) (i : Fin 90) (j : Fin 9) : iblk m c 8 t (ix2 i j) = V m c main_call0_v26 (ix2 i j) := by
  unfold iblk
  refine congrArg (V m c main_call0_v26) ?_
  blk_ext [win_idx t]

theorem blk9 (t : Fin (cfgM m).N) (i : Fin 9) : iblk m c 9 t (ix2 0 i) = V m c main_call0_v28 (ix2 0 i) := by
  unfold iblk
  refine congrArg (V m c main_call0_v28) ?_
  blk_ext [win_idx t]

theorem blk11 (t : Fin (cfgM m).N) (i : Fin 9) : iblk m c 11 t (ix2 0 i) = V m c main_call0_v29 (ix2 0 i) := by
  unfold iblk
  refine congrArg (V m c main_call0_v29) ?_
  blk_ext [win_idx t]

theorem blk4 (t : Fin (cfgM m).N) (i j : Fin 64) : iblk m c 4 t (ix2 i j) = m ((c : Thread nD τ).loc main_arg4) (ix2 i j) := by
  blk_ext [iblk, V, win_idx t]

theorem blk6 (t : Fin (cfgM m).N) (i : Fin 9) (j : Fin 64) : iblk m c 6 t (ix2 i j) = m ((c : Thread nD τ).loc main_arg6) (ix2 i j) := by
  blk_ext [iblk, V, win_idx t]

theorem blk10 (t : Fin (cfgM m).N) (i j : Fin 9) : iblk m c 10 t (ix2 i j) = m ((c : Thread nD τ).loc main_arg9) (ix2 i j) := by
  blk_ext [iblk, V, win_idx t]

/-- Some contents of the table: no window's place reads it. -/
def anyTbl : pre0.Contents (Elt Ideal) := fun
  | 0 => fun _ => (0#32 : BitVec 32)
  | ⟨_ + 1, h⟩ => absurd h (Nat.not_lt.2 (Nat.le_add_left _ _))

theorem cov_any : ((cfg0 (F := Ideal) ⟨anyTbl, trivial⟩).win 12).Covers := by decide +kernel

theorem cov : ((cfgM m).win 12).Covers := cov_any

/-- The result array from what the body stores at each point. -/
theorem arr_of (G : Fin 16384 → Fin 9 → EReal)
    (hG : ∀ (t : Fin (cfgM m).N) (ht : t.val < 64) (i : Fin 256) (k : Fin 9), outVal m c t (ix2 i k) = G ⟨t.val * 256 + i.val, by omega⟩ k) :
    (dats m 0 c).arrAt 12 (cfgM m).N = (fun j => G (j 0) (j 1) : S16384x9.Idx → EReal) := by
  refine Dat.arrAt_eq_of_covers (dats m 0 c) 12 _ cov fun t hf y => ?_
  have ht : t.val < 64 := t.isLt
  blk_simp
  rw [after_12]
  have hy : ∀ y : S256x9.Idx, outVal m c t y = (fun j => G (j 0) (j 1) : S16384x9.Idx → EReal) ((((cfgM m).win 12).blk t).view.emb y) := fun y => by
    obtain ⟨i, k, rfl⟩ : ∃ (i : Fin 256) (k : Fin 9), y = ix2 i k := ⟨y 0, y 1, ValueIdx.eq_ix2 y⟩
    refine (hG t ht i k).trans (congrArg (fun j => G (j 0) (j 1) : S16384x9.Idx → EReal) (?_ : ix2 ⟨t.val * 256 + i.val, by omega⟩ k = _))
    blk_ext [win_idx t]
  exact hy y

end Cert.KernelIdeal
end
-- ==== Proof.Pure.lean ====
/- The kernel's payloads read at an index, over the extended reals. -/
module

public import proofs.«01_k».proof.Proof.RunSetup
public import proofs.«01_k».proof.Proof.Spec

@[expose] public section

set_option maxRecDepth 16384

noncomputable section

namespace Cert.KernelIdeal

open Cert.KernelIdeal.Gen
open Idealize.ShloMosaic Idealize.ShloMosaic.TcCoe
open Cert.Proof.Spec

/-- The end of the body: two softmaxes around the last weights. -/
theorem pay1_val (l : FVec Ideal S256x9 .f32) (bb : FVec Ideal S1x9 .f32) (w2 : FVec Ideal S9x9 .f32) (b2 : FVec Ideal S1x9 .f32)
    (bb' b2' : FVec Ideal S9 .f32) (hb : ∀ c : Fin 9, bb (ix2 0 c) = bb' (ix1 c)) (h2 : ∀ c : Fin 9, b2 (ix2 0 c) = b2' (ix1 c))
    (i : Fin 256) (c : Fin 9) :
    k0_pay1 (F := Ideal) l bb w2 b2 (ix2 i c) = tail (fun c => l (ix2 i c)) bb' w2 b2' c := by
  pointwise [k0_pay1]
  simp only [hb, h2]
  rfl

/-- The place of a lane of ninety. -/
theorem lane_word (l : Fin 90) :
    Scalar.select
      (IntOp.andi
        (IntOp.cmpi CmpIPredicate.ne
          (IntOp.subi (BitVec.setWidth 32 (IntOp.cmpi CmpIPredicate.sgt (BitVec.ofNat 32 l.val) 0#32))
            (BitVec.setWidth 32 (IntOp.cmpi CmpIPredicate.slt (BitVec.ofNat 32 l.val) 0#32)))
          (Scalar.subi (Scalar.extui (Scalar.cmpi CmpIPredicate.sgt 9#32 0#32)) (Scalar.extui (Scalar.cmpi CmpIPredicate.slt 9#32 0#32))))
        (IntOp.cmpi CmpIPredicate.ne (IntOp.remsi ArithUnit.vector (BitVec.ofNat 32 l.val) 9#32) 0#32))
      (IntOp.subi (IntOp.divsi ArithUnit.vector (BitVec.ofNat 32 l.val) 9#32) 1#32)
      (IntOp.divsi ArithUnit.vector (BitVec.ofNat 32 l.val) 9#32) = BitVec.ofNat 32 (l.val / 9) := by
  revert l
  decide +kernel

/-- The hidden rows of a window. -/
theorem pay14_val (vx : FVec Ideal S1x2576x64 .f32) (vc : FVec Ideal S1x2576x2 .f32) (pe : FVec Ideal S9x64 .f32) (ws : FVec Ideal S64x64 .f32)
    (bs : FVec Ideal S1x64 .f32) (w : Fin 2576) (d : Fin 64) (k : Fin 9) (hk : vc (ix3 0 w 1) = num k.val) :
    k0_pay14 (F := Ideal) (k0_pay4 vx) (k0_pay6 vc) (k0_pay7 vc) pe ws bs (ix2 w d)
      = max ((∑ e : Fin 64, (vx (ix3 0 w e) + pe (ix2 k e)) * ws (ix2 e d)) + bs (ix2 0 d)) 0 * vc (ix3 0 w 0) := by
  pointwise [k0_pay14, k0_pay4, k0_pay5, k0_pay6, k0_pay7]
  have e : ∀ e : Fin 64, (∑ x : Fin 9, FloatOps.sitofp FTy.f32 (BitVec.setWidth 32 (BitVec.ofBool (decide
      (vc (ix3 0 w 1) = FloatOps.sitofp FTy.f32 (BitVec.ofNat 32 x.val))))) * pe (ix2 x e)) = pe (ix2 k e) := fun e => by
    rw [Finset.sum_eq_single k]
    · rw [sitofp_bit, hk, sitofp_num _ (by omega), if_pos rfl]
      exact one_mul _
    · intro b _ hb
      rw [sitofp_bit, hk, sitofp_num _ (by omega), if_neg fun h => hb (Fin.ext ((num_inj _ _).1 h).symm)]
      exact zero_mul _
    · intro h
      exact absurd (Finset.mem_univ _) h
  simp only [e]

/-- The word of a window's row, as a number. -/
theorem place_num (φ : FTy) (A : Nat) (hA : A ≤ 89927) (w : Fin 2576) :
    (FloatOps.sitofp φ (IntOp.addi (BitVec.ofNat 32 w.val) (BitVec.ofNat 32 A)) : Ideal φ) = num (A + w.val) := by
  rw [show IntOp.addi (BitVec.ofNat 32 w.val) (BitVec.ofNat 32 A) = BitVec.ofNat 32 (A + w.val) from by
    rw [Nat.add_comm, BitVec.ofNat_add]; rfl]
  exact sitofp_num φ (by omega)

/-- The mask's sum of the boxes' first rows, at a row of box `i`: the first row of box `i`. -/
theorem mask_sum (lo hi : Fin 256 → Nat) (hd : ∀ i j r, lo i ≤ r → r < hi i → lo j ≤ r → r < hi j → i = j) (r : Nat) (i : Fin 256)
    (h : lo i ≤ r ∧ r < hi i) : ∑ j : Fin 256, (if lo j ≤ r ∧ r < hi j then (1 : EReal) else 0) * num (lo j) = num (lo i) := by
  rw [Finset.sum_eq_single i]
  · rw [if_pos h, one_mul]
  · intro j _ hj
    rw [if_neg fun h' => hj (hd j i r h'.1 h'.2 h.1 h.2), zero_mul]
  · intro h
    exact absurd (Finset.mem_univ _) h

/-- Of ninety lanes, the one of place `s` and class `c`. -/
theorem lane_sum (K : Fin 90 → EReal) (s : Fin 10) (c : Fin 9) :
    ∑ l : Fin 90, K l * (if num s.val = num (l.val / 9) then (1 : EReal) else 0) * (if l.val % 9 = c.val then (1 : EReal) else 0)
      = K ⟨s.val * 9 + c.val, by omega⟩ := by
  rw [Finset.sum_eq_single ⟨s.val * 9 + c.val, by omega⟩]
  · rw [if_pos ((num_inj _ _).2 (by show s.val = (s.val * 9 + c.val) / 9; omega)), if_pos (by show (s.val * 9 + c.val) % 9 = c.val; omega),
      mul_one, mul_one]
  · intro l _ hl
    by_cases h1 : s.val = l.val / 9
    · rw [if_neg (c := l.val % 9 = c.val) fun h2 => hl (Fin.ext (by show l.val = s.val * 9 + c.val; omega)), mul_zero]
    · rw [if_neg (c := num s.val = num (l.val / 9)) fun h2 => h1 ((num_inj _ _).1 h2), mul_zero, zero_mul]
  · intro h
    exact absurd (Finset.mem_univ _) h

/-- The scores of a block: each box's rows, found in the window from `A` on, against the weights of their places. -/
theorem pay15_val (x0 x1 : FVec Ideal S1x1x256 .f32) (x2 x3 : FVec Ideal S1x256x1 .f32) (A : Nat) (h : FVec Ideal S2576x64 .f32)
    (wb : FVec Ideal S64x90 .f32) (f : FVec Ideal S90x9 .f32) (lo hi : Fin 256 → Nat) (h0 : ∀ i : Fin 256, x0 (ix3 0 0 i) = num (lo i))
    (h1 : ∀ i : Fin 256, x1 (ix3 0 0 i) = num (hi i)) (h2 : ∀ i : Fin 256, x2 (ix3 0 i 0) = num (lo i))
    (h3 : ∀ i : Fin 256, x3 (ix3 0 i 0) = num (hi i)) (hf : ∀ (l : Fin 90) (c : Fin 9), f (ix2 l c) = if l.val % 9 = c.val then (1 : EReal) else 0)
    (hA : A ≤ 89927) (hlo : ∀ i, A ≤ lo i) (hhi : ∀ i, hi i ≤ A + 2575) (hle : ∀ i, hi i ≤ lo i + 10)
    (hd : ∀ i j r, lo i ≤ r → r < hi i → lo j ≤ r → r < hi j → i = j) (g : Nat → Fin 64 → EReal)
    (hg : ∀ (w : Fin 2576) (d : Fin 64), w.val < 2575 → h (ix2 w d) = g (A + w.val) d) (i : Fin 256) (c : Fin 9) :
    k0_pay15 (F := Ideal) (k0_pay8 x0) (k0_pay11 (BitVec.ofNat 32 A)) (k0_pay12 (BitVec.ofNat 32 A) (k0_pay8 x0) (k0_pay9 x1))
      (k0_pay13 (BitVec.ofNat 32 A) (k0_pay10 x2) x3) h wb f (ix2 i c)
      = ∑ s : Fin 10, if s.val < hi i - lo i then ∑ d : Fin 64, g (lo i + s.val) d * wb (ix2 d ⟨s.val * 9 + c.val, by omega⟩) else 0 := by
  pointwise [k0_pay15, k0_pay8, k0_pay11, k0_pay12, k0_pay9, k0_pay13, k0_pay10]
  have hl : ∀ l : Fin 90, (FloatOps.sitofp FTy.f32 (BitVec.ofNat 32 (l.val / 9)) : Ideal .f32) = num (l.val / 9) := fun l =>
    sitofp_num _ (by omega)
  simp only [lane_word, h0, h1, h2, h3, hf, place_num _ A hA, hl, sitofp_both, sitofp_bit, num_le, num_lt]
  have key : ∀ w : Fin 2576,
      (if lo i ≤ A + w.val ∧ A + w.val < hi i then (1 : EReal) else 0) *
        (∑ l : Fin 90, (∑ d : Fin 64, h (ix2 w d) * wb (ix2 d l)) *
          (if num (A + w.val) - ∑ j : Fin 256, (if lo j ≤ A + w.val ∧ A + w.val < hi j then (1 : EReal) else 0) * num (lo j)
            = num (l.val / 9) then (1 : EReal) else 0) * (if l.val % 9 = c.val then (1 : EReal) else 0))
      = if lo i ≤ A + w.val ∧ A + w.val < hi i then
          (fun r => ∑ d : Fin 64, g r d * wb (ix2 d (Fin.ofNat 90 ((r - lo i) * 9 + c.val)))) (A + w.val) else 0 := fun w => by
    by_cases hw : lo i ≤ A + w.val ∧ A + w.val < hi i
    · rw [if_pos hw, if_pos hw, one_mul, mask_sum lo hi hd _ i hw, num_sub hw.1]
      have hs : A + w.val - lo i < 10 := by have := hle i; omega
      have hw' : w.val < 2575 := by have := hhi i; omega
      refine (lane_sum (fun l => ∑ d : Fin 64, h (ix2 w d) * wb (ix2 d l)) ⟨A + w.val - lo i, hs⟩ c).trans ?_
      refine Finset.sum_congr rfl fun d _ => ?_
      rw [hg w d hw']
      refine congrArg (fun l => g (A + w.val) d * wb (ix2 d l)) (Fin.ext ?_)
      show (A + w.val - lo i) * 9 + c.val = ((A + w.val - lo i) * 9 + c.val) % 90
      omega
    · rw [if_neg hw, if_neg hw, zero_mul]
  refine (Finset.sum_congr rfl fun w _ => key w).trans ?_
  refine (sum_window (n := 2576) (hi := hi i) (hlo i) (by have := hhi i; omega)
    (fun r => ∑ d : Fin 64, g r d * wb (ix2 d (Fin.ofNat 90 ((r - lo i) * 9 + c.val))))).trans ?_
  rw [← sum_places (n := 10) (hle i)]
  refine Finset.sum_congr rfl fun s _ => ?_
  by_cases h : s.val < hi i - lo i
  · rw [if_pos h, if_pos h]
    refine Finset.sum_congr rfl fun d _ => congrArg (fun l => g (lo i + s.val) d * wb (ix2 d l)) (Fin.ext ?_)
    show ((lo i + s.val - lo i) * 9 + c.val) % 90 = s.val * 9 + c.val
    omega
  · rw [if_neg h, if_neg h]

end Cert.KernelIdeal
end
-- ==== Proof.Value.lean ====
/- The idealized kernel's result at an index: the formula of the specification. -/
module

public import proofs.«01_k».proof.Proof.Blocks
public import proofs.«01_k».proof.Proof.Pure

@[expose] public section

set_option maxRecDepth 16384

noncomputable section

namespace Cert.KernelIdeal

open Cert.KernelIdeal.Gen
open Idealize.ShloMosaic Idealize.ShloMosaic.TcCoe
open Cert.Proof.Boxes Cert.Proof.Spec

variable {m : (ℓ : Loc nD τ sig) → Buf (Elt Ideal) ℓ} {c : Dev nD} (g : GoodAt m c)

/-- The box lengths, as launched. -/
abbrev lens (m : (ℓ : Loc nD τ sig) → Buf (Elt Ideal) ℓ) (c : Dev nD) : IVec S16384 32 := m ((c : Thread nD τ).loc main_arg2)

/-- The row the window of point `t` starts from. -/
def rowA (m : (ℓ : Loc nD τ sig) → Buf (Elt Ideal) ℓ) (c : Dev nD) (t : Nat) : Nat := min (offs (lens m c) (t * 256) / 8 * 8) 87352

/-- The hidden entries as both programs see them, by row number. -/
abbrev hidM (m : (ℓ : Loc nD τ sig) → Buf (Elt Ideal) ℓ) (c : Dev nD) : Fin 89927 → Fin 64 → EReal :=
  hid (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6))

/-- The result as the specification has it. -/
abbrev specM (m : (ℓ : Loc nD τ sig) → Buf (Elt Ideal) ℓ) (c : Dev nD) : Fin 16384 → Fin 9 → EReal :=
  spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The table's word at the first box of a tile. -/
theorem word_at (t : Nat) (h : t * 256 < 16385) : word (tbl m 0) (t * 256) h = BitVec.ofNat 32 (offs (lens m c) (t * 256)) := by
  obtain rfl : c = 0 := Subsingleton.elim _ _
  exact table_word m 0 ⟨t * 256, h⟩

include g

theorem start_word (t : Nat) (ht : t < 64) (h : t * 256 < 16385) : st8 (word (tbl m 0) (t * 256) h) = BitVec.ofNat 32 (rowA m c t) := by
  rw [word_at (c := c) t h, st8_word (g.offs_le (n := t * 256) (by omega))]
  rfl

theorem start_row (t : Nat) (ht : t < 64) (h : t * 256 < 16385) : (st (tbl m 0) (t * 256) h).val = rowA m c t := by
  have hle := g.offs_le (n := t * 256) (by omega)
  show min ((word (tbl m 0) (t * 256) h).toNat / 8 * 8) 87352 = _
  rw [word_at (c := c) t h, WordCmp.toNat_ofNat_of_lt (w := 32) (lt_of_le_of_lt hle (by decide))]
  rfl

/-- The slot of rows, at a row of the window. -/
theorem slotX_at (t : Nat) (ht : t < 64) (h : t * 256 < 16385) (w : Fin 2576) (hw : w.val < 2575) (e : Fin 64) (r : Fin 89927) (hr : r.val = rowA m c t + w.val) :
    (slotV (F := Ideal) (D := 64) (st (tbl m 0) (t * 256) h) (hbX.view.read (Elt Ideal) (V m c main_arg0)) z0 (ix3 0 w e) : EReal)
      = m ((c : Thread nD τ).loc main_arg0) (ix2 r e) := by
  refine (win_lt _ _ _ 0 w e hw).trans ?_
  have e0 : (⟨(st (tbl m 0) (t * 256) h).val + w.val, by have := (st (tbl m 0) (t * 256) h).isLt; omega⟩ : Fin 89927) = r :=
    Fin.ext (by rw [hr, ← start_row g t ht h])
  rw [e0]
  exact congrFun (V_args m c).1 (ix2 r e)

/-- The slot of confidences and classes, at a row of the window. -/
theorem slotC_at (t : Nat) (ht : t < 64) (h : t * 256 < 16385) (w : Fin 2576) (hw : w.val < 2575) (e : Fin 2) (r : Fin 89927) (hr : r.val = rowA m c t + w.val) :
    (slotV (F := Ideal) (D := 2) (st (tbl m 0) (t * 256) h) (hbC.view.read (Elt Ideal) (V m c main_call0_v14)) z0 (ix3 0 w e) : EReal)
      = V m c main_call0_v14 (ix2 r e) := by
  refine (win_lt _ _ _ 0 w e hw).trans ?_
  have e0 : (⟨(st (tbl m 0) (t * 256) h).val + w.val, by have := (st (tbl m 0) (t * 256) h).isLt; omega⟩ : Fin 89927) = r :=
    Fin.ext (by rw [hr, ← start_row g t ht h])
  rw [e0]
  rfl

/-- `n` boxes hold at most `10 n` rows. -/
theorem offs_add_le (a n : Nat) : offs (lens m c) (a + n) ≤ offs (lens m c) a + 10 * n := by
  induction n with
  | zero => exact le_rfl
  | succ n ih =>
    have hl : len (lens m c) (a + n) ≤ 10 := g.len_le _
    rw [← Nat.add_assoc, offs_succ]
    omega

/-- The rows of a tile's boxes lie in the tile's window. -/
theorem last_row (t : Nat) (ht : t < 64) (i : Fin 256) : offs (lens m c) (t * 256 + i.val + 1) ≤ rowA m c t + 2575 := by
  have h1 := offs_add_le g (t * 256) (i.val + 1)
  have h2 : offs (lens m c) (t * 256 + i.val + 1) ≤ 89927 := g.offs_le (n := t * 256 + i.val + 1) (by omega)
  rw [← Nat.add_assoc] at h1
  unfold rowA
  omega

/-- The tile the body stores at point `t` is the specification's. -/
theorem out_val (t : Fin (cfgM m).N) (ht : t.val < 64) (i : Fin 256) (k : Fin 9) :
    outVal m c t (ix2 i k) = specM m c ⟨t.val * 256 + i.val, by omega⟩ k := by
  unfold outVal outV
  rw [start_word g t.val ht]
  refine (pay1_val _ _ _ _ (m ((c : Thread nD τ).loc main_arg8)) (m ((c : Thread nD τ).loc main_arg10))
    (fun n => (blk9 t n).trans (v28_at m c n)) (fun n => (blk11 t n).trans (v29_at m c n)) i k).trans ?_
  have hy : ∀ y : S9x9.Idx, iblk m c 10 t y = m ((c : Thread nD τ).loc main_arg9) y := fun y => by
    obtain ⟨a, b, rfl⟩ : ∃ (a b : Fin 9), y = ix2 a b := ⟨y 0, y 1, ValueIdx.eq_ix2 y⟩
    exact blk10 t a b
  have hw2 : iblk m c 10 t = m ((c : Thread nD τ).loc main_arg9) := funext hy
  rw [hw2]
  refine congrArg (fun l => tail l _ _ _ k) (funext fun n => ?_)
  have hlen : ∀ b, offs (lens m c) (b + 1) = offs (lens m c) b + len (lens m c) b := offs_succ (lens m c)
  have hmono : ∀ i : Fin 256, offs (lens m c) (t.val * 256) ≤ offs (lens m c) (t.val * 256 + i.val) := fun i => offs_mono (lens m c) (Nat.le_add_right _ _)
  have hA : rowA m c t.val ≤ offs (lens m c) (t.val * 256) := by unfold rowA; omega
  refine (pay15_val _ _ _ _ (rowA m c t.val) _ _ _ (fun i => offs (lens m c) (t.val * 256 + i.val)) (fun i => offs (lens m c) (t.val * 256 + i.val + 1))
    (fun i => (blk0 t i).trans (v7_at g _ i)) (fun i => (blk1 t i).trans (v8_at g _ i)) (fun i => (blk2 t i).trans (v9_at g _ i))
    (fun i => (blk3 t i).trans (v10_at g _ i)) (fun l n => (blk8 t l n).trans (v26_at m c l n)) ?_ ?_ ?_ ?_ ?_
    (fun r d => hidM m c (Fin.ofNat 89927 r) d) ?_ i n).trans ?_
  · unfold rowA; omega
  · exact fun i => hA.trans (hmono i)
  · intro i
    exact last_row g t.val ht i
  · intro i
    have hl : len (lens m c) (t.val * 256 + i.val) ≤ 10 := g.len_le _
    show offs (lens m c) (_ + 1) ≤ offs (lens m c) _ + 10
    rw [hlen]
    omega
  · intro i j r h1 h2 h3 h4
    have := offs_unique h1 h2 h3 h4
    exact Fin.ext (by omega)
  · intro w d hw
    have hr : rowA m c t.val + w.val < 89927 := by unfold rowA; omega
    have er : (Fin.ofNat 89927 (rowA m c t.val + w.val)).val = rowA m c t.val + w.val := Nat.mod_eq_of_lt hr
    have ec : num (cls (m ((c : Thread nD τ).loc main_arg1)) (rowA m c t.val + w.val))
        = num (Fin.ofNat 9 (cls (m ((c : Thread nD τ).loc main_arg1)) (rowA m c t.val + w.val))).val :=
      congrArg num (Nat.mod_eq_of_lt (g.cls_lt _)).symm
    refine (pay14_val _ _ _ _ _ w d (Fin.ofNat 9 (cls (m ((c : Thread nD τ).loc main_arg1)) (rowA m c t.val + w.val))) ?_).trans ?_
    · refine (slotC_at g t.val ht _ w hw 1 _ er).trans ?_
      rw [v14_cls g, er]
      exact ec
    · unfold hidM hid
      rw [slotC_at g t.val ht _ w hw 0 _ er, v14_conf, er]
      have hx : ∀ e : Fin 64, _ := fun e => slotX_at g t.val ht (idx_lt t) w hw e _ er
      simp only [hx, blk4, blk5, blk6]
      exact congrArg (fun z : EReal => max (_ + z) 0 * _) (v27_at m c d)
  · refine Finset.sum_congr rfl fun s _ => if_congr ?_ (Finset.sum_congr rfl fun d _ => ?_) rfl
    · show s.val < offs (lens m c) (_ + 1) - offs (lens m c) _ ↔ _
      rw [hlen, Nat.add_sub_cancel_left]
    · exact congrArg (fun z : EReal => hidM m c (Fin.ofNat 89927 (offs (lens m c) (t.val * 256 + i.val) + s.val)) d * z) ((blk7 t d _).trans (v17_at d s n))

/-- The kernel's result array is the specification's. -/
theorem arr_val : (dats m 0 c).arrAt 12 (cfgM m).N = (fun j => specM m c (j 0) (j 1) : S16384x9.Idx → EReal) :=
  arr_of (specM m c) (out_val g)

end Cert.KernelIdeal
end
-- ==== Proof.lean ====
module

public import proofs.«01_k».proof.Defs
public import proofs.«01_k».proof.Proof.KTable
public import proofs.«01_k».proof.Proof.KRunFrame
public import proofs.«01_k».proof.Proof.RefRun
public import proofs.«01_k».proof.Proof.RefValue
public import proofs.«01_k».proof.Proof.Value

@[expose] public section

set_option maxRecDepth 16384

noncomputable section

namespace Cert.Proof

open Idealize.ShloMosaic Idealize.SL.Sem Cert.Proof.Boxes

theorem frame_P [Cert.Pre_boxes_fill_rows.Facts] :
    letI := Cert.Kernel.Gen.facts
    Cert.quiescent_Kernel := fun m g hpre =>
  Cert.Kernel.Gen.frame_of m g (Cert.Kernel.table_le m (good_of_fn _ _ _ _ _ _ _ _ _ _ _ (hpre 0)))

theorem frame_PI [Cert.Pre_boxes_fill_rows.Facts] :
    letI := Cert.KernelIdeal.Gen.facts
    Cert.quiescent_KernelIdeal := fun m g hpre =>
  Cert.KernelIdeal.Gen.frame_of m g (Cert.KernelIdeal.table_le m (good_of_fn _ _ _ _ _ _ _ _ _ _ _ (hpre 0)))

theorem algebraic_PI_RI [Cert.Pre_boxes_fill_rows.Facts] [Cert.ReferenceIdeal.Facts] :
    letI := Cert.KernelIdeal.Gen.facts
    Cert.algebraic_KernelIdeal_ReferenceIdeal := by
  intro m g m' g' hpre hagree
  have good : ∀ c, Cert.KernelIdeal.GoodAt m c := fun c => good_of_fn _ _ _ _ _ _ _ _ _ _ _ (hpre c)
  refine ⟨fun c => (fun j => Cert.KernelIdeal.specM m c (j 0) (j 1) : Cert.KernelIdeal.S16384x9.Idx → EReal), ?_, ?_⟩
  · run_from (Cert.KernelIdeal.Gen.run_out m g (Cert.KernelIdeal.table_le m (good 0)))
    exact Cert.KernelIdeal.arr_val (good c)
  · refine θ_run_mono (Cert.ReferenceIdeal.run_ref m' g') fun r hr c => ⟨(hr c).1.trans ?_, (hr c).2⟩
    obtain ⟨e0, e1, e2, e3, e4, e5, e6, e7, e8, e9, e10⟩ := hagree c
    rw [e0, e1, e2, e3, e4, e5, e6, e7, e8, e9, e10]
    exact Cert.ReferenceIdeal.resR_fun (good c)

theorem claim : Cert.Claim := ⟨Cert.Kernel.Gen.facts, Cert.KernelIdeal.Gen.facts, Cert.ReferenceIdeal.Gen.facts, preFacts,
  letI := preFacts
  letI := Cert.ReferenceIdeal.Gen.facts
  ⟨frame_P, frame_PI, frame_R, fun m g _ => frame_R m g trivial, trivial, algebraic_PI_RI⟩⟩

end Cert.Proof
end
